-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_rows_in_range_finite [hPre_rows_in_range_finite : Cert.Pre_rows_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range_finite [hPre_rows_in_range_finite : Cert.Pre_rows_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_rows_in_range_finite [hKernelIdeal : Cert.KernelIdeal.Facts] [hPre_rows_in_range_finite : Cert.Pre_rows_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_rows_in_range_finite [hReferenceIdeal : Cert.ReferenceIdeal.Facts] [hPre_rows_in_range_finite : Cert.Pre_rows_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_rows_in_range_finite [hKernelIdeal : Cert.KernelIdeal.Facts] [hReferenceIdeal : Cert.ReferenceIdeal.Facts] [hPre_rows_in_range_finite : Cert.Pre_rows_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_rows_in_range : Cert.Pre_rows_in_range.Facts) (hPre_rows_in_range_finite : Cert.Pre_rows_in_range_finite.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_rows_in_range_finite (hKernelIdeal := hKernelIdeal) (hPre_rows_in_range_finite := hPre_rows_in_range_finite)
    ∧ quiescent_ReferenceIdeal (hReferenceIdeal := hReferenceIdeal)
    ∧ quiescent_ReferenceIdeal_pre_rows_in_range_finite (hReferenceIdeal := hReferenceIdeal) (hPre_rows_in_range_finite := hPre_rows_in_range_finite)
    ∧ preserves_Kernel_KernelIdeal
    ∧ algebraic_KernelIdeal_ReferenceIdeal_pre_rows_in_range_finite (hKernelIdeal := hKernelIdeal) (hReferenceIdeal := hReferenceIdeal) (hPre_rows_in_range_finite := hPre_rows_in_range_finite)
-- ==== Pre_rows_in_range.lean ====
abbrev S1024x50 : Shape := ⟨2, ![1024, 50]⟩
abbrev S100000x64 : Shape := ⟨2, ![100000, 64]⟩
abbrev S64x128 : Shape := ⟨2, ![64, 128]⟩
abbrev S128 : Shape := ⟨1, ![128]⟩
abbrev S128x1000 : Shape := ⟨2, ![128, 1000]⟩
abbrev S1000 : Shape := ⟨1, ![1000]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : IVec S1024x50 32) (main_arg2 : FVec F S100000x64 .f32) (main_arg3 : FVec F S64x128 .f32) (main_arg4 : FVec F S128 .f32) (main_arg5 : FVec F S64x128 .f32) (main_arg6 : FVec F S128 .f32) (main_arg7 : FVec F S128x1000 .f32) (main_arg8 : FVec F S1000 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg1 main_v0
  let main_c_0 : IVec S_ 32 := constantI S_ 32 100000#32
  let main_v2 : IVec S1024x50 32 := broadcastInDim S1024x50 ![] bcast_S_S1024x50 main_c_0
  let main_v3 : IVec S1024x50 1 := cmpi .slt main_arg1 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Pre_rows_in_range_finite.lean ====
abbrev S1024x50 : Shape := ⟨2, ![1024, 50]⟩
abbrev S100000x64 : Shape := ⟨2, ![100000, 64]⟩
abbrev S64x128 : Shape := ⟨2, ![64, 128]⟩
abbrev S128 : Shape := ⟨1, ![128]⟩
abbrev S128x1000 : Shape := ⟨2, ![128, 1000]⟩
abbrev S1000 : Shape := ⟨1, ![1000]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1000 : S_.BroadcastsInDim S128x1000 (![] : Fin 0 → Fin S128x1000.rank)
  reducesTo_S128x1000_S_d0_1 : S128x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg7 : FVec F S128x1000 .f32) (main_arg8 : FVec F S1000 .f32) (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  let main_v21 : FVec F S128x1000 .f32 := Host.absf main_arg7
  let main_cst_7 : FVec F S_ .f32 := constant S_ .f32 0x7F800000#32
  let main_v22 : FVec F S128x1000 .f32 := broadcastInDim S128x1000 ![] bcast_S_S128x1000 main_cst_7
  let main_v23 : IVec S128x1000 1 := cmpf .olt main_v21 main_v22
  let main_c_8 : IVec S_ 1 := constantI S_ 1 1#1
  let main_v24 : IVec S_ 1 := (fun x v => Host.reduce IntOp.andi x v reducesTo_S128x1000_S_d0_1 h_S_) main_v23 main_c_8
  let main_v25 : IVec S_ 1 := andi main_v20 main_v24
  let main_v26 : FVec F S1000 .f32 := Host.absf main_arg8
  let main_cst_9 : FVec F S_ .f32 := constant S_ .f32 0x7F800000#32
  let main_v27 : FVec F S1000 .f32 := broadcastInDim S1000 ![] bcast_S_S1000 main_cst_9
  let main_v28 : IVec S1000 1 := cmpf .olt main_v26 main_v27
  let main_c_10 : IVec S_ 1 := constantI S_ 1 1#1
  let main_v29 : IVec S_ 1 := (fun x v => Host.reduce IntOp.andi x v reducesTo_S1000_S_d0 h_S_) main_v28 main_c_10
  let main_v30 : IVec S_ 1 := andi main_v25 main_v29
  main_v30

def fn {F : FTy → Type} [FloatOps F] (main_arg0 : IVec S1024x50 32) (main_arg1 : IVec S1024x50 32) (main_arg2 : FVec F S100000x64 .f32) (main_arg3 : FVec F S64x128 .f32) (main_arg4 : FVec F S128 .f32) (main_arg5 : FVec F S64x128 .f32) (main_arg6 : FVec F S128 .f32) (main_arg7 : FVec F S128x1000 .f32) (main_arg8 : FVec F S1000 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg1 main_v0
  let main_c_0 : IVec S_ 32 := constantI S_ 32 100000#32
  let main_v2 : IVec S1024x50 32 := broadcastInDim S1024x50 ![] bcast_S_S1024x50 main_c_0
  let main_v3 : IVec S1024x50 1 := cmpi .slt main_arg1 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  let main_v6 : FVec F S100000x64 .f32 := Host.absf main_arg2
  let main_cst : FVec F S_ .f32 := constant S_ .f32 0x7F800000#32
  let main_v7 : FVec F S100000x64 .f32 := broadcastInDim S100000x64 ![] bcast_S_S100000x64 main_cst
  let main_v8 : IVec S100000x64 1 := cmpf .olt main_v6 main_v7
  let main_c_2 : IVec S_ 1 := constantI S_ 1 1#1
  let main_v9 : IVec S_ 1 := (fun x v => Host.reduce IntOp.andi x v reducesTo_S100000x64_S_d0_1 h_S_) main_v8 main_c_2
  let main_v10 : IVec S_ 1 := andi main_v5 main_v9
  let main_v11 : FVec F S64x128 .f32 := Host.absf main_arg5
  let main_cst_3 : FVec F S_ .f32 := constant S_ .f32 0x7F800000#32
  let main_v12 : FVec F S64x128 .f32 := broadcastInDim S64x128 ![] bcast_S_S64x128 main_cst_3
  let main_v13 : IVec S64x128 1 := cmpf .olt main_v11 main_v12
  let main_c_4 : IVec S_ 1 := constantI S_ 1 1#1
  let main_v14 : IVec S_ 1 := (fun x v => Host.reduce IntOp.andi x v reducesTo_S64x128_S_d0_1 h_S_) main_v13 main_c_4
  let main_v15 : IVec S_ 1 := andi main_v10 main_v14
  let main_v16 : FVec F S128 .f32 := Host.absf main_arg6
  fn_part1 (F := F) main_arg7 main_arg8 main_v15 main_v16
-- ==== Kernel.lean ====
abbrev S1024x50 : Shape := ⟨2, ![1024, 50]⟩
abbrev S100000x64 : Shape := ⟨2, ![100000, 64]⟩
abbrev S64x128 : Shape := ⟨2, ![64, 128]⟩
abbrev S128 : Shape := ⟨1, ![128]⟩
abbrev S128x1000 : Shape := ⟨2, ![128, 1000]⟩
abbrev S1000 : Shape := ⟨1, ![1000]⟩
abbrev S64x100000 : Shape := ⟨2, ![64, 100000]⟩
abbrev S1x128 : Shape := ⟨2, ![1, 128]⟩
abbrev S100000x128 : Shape := ⟨2, ![100000, 128]⟩
abbrev S64x12544 : Shape := ⟨2, ![64, 12544]⟩
abbrev S12544x128 : Shape := ⟨2, ![12544, 128]⟩
abbrev S50x1024 : Shape := ⟨2, ![50, 1024]⟩
abbrev S51200 : Shape := ⟨1, ![51200]⟩
abbrev S_ : Shape := ⟨0, ![]⟩
abbrev S52096 : Shape := ⟨1, ![52096]⟩
abbrev S51200x128 : Shape := ⟨2, ![51200, 128]⟩
abbrev S2048 : Shape := ⟨1, ![2048]⟩
abbrev S4x128x128 : Shape := ⟨3, ![4, 128, 128]⟩
abbrev S4 : Shape := ⟨1, ![4]⟩
abbrev S1x128x128 : Shape := ⟨3, ![1, 128, 128]⟩
abbrev S128x128 : Shape := ⟨2, ![128, 128]⟩
abbrev S1 : Shape := ⟨1, ![1]⟩
abbrev S1000x128 : Shape := ⟨2, ![1000, 128]⟩
abbrev S1000x1 : Shape := ⟨2, ![1000, 1]⟩
abbrev S50x1000x1024 : Shape := ⟨3, ![50, 1000, 1024]⟩
abbrev S2048x128 : Shape := ⟨2, ![2048, 128]⟩
abbrev S2x1000x1024 : Shape := ⟨3, ![2, 1000, 1024]⟩
abbrev S1024x128 : Shape := ⟨2, ![1024, 128]⟩
abbrev S1000x1024 : Shape := ⟨2, ![1000, 1024]⟩
abbrev S1024 : Shape := ⟨1, ![1024]⟩
abbrev S1x1024 : Shape := ⟨2, ![1, 1024]⟩
abbrev S1x1000x1024 : Shape := ⟨3, ![1, 1000, 1024]⟩
abbrev S1024x50x1000 : Shape := ⟨3, ![1024, 50, 1000]⟩

abbrev nBuf : Table → Nat
  | .hbm => 22
  | .local .tc .vmem => 12
  | .local .scVector .vmem => 2
  | _ => 0

abbrev bufTy : (tb : Table) → Fin (nBuf tb) → BufTy
  | .hbm, ⟨0, _⟩ => ⟨S1024x50, .i32⟩
  | .hbm, ⟨1, _⟩ => ⟨S1024x50, .i32⟩
  | .hbm, ⟨2, _⟩ => ⟨S100000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x1000, .f32⟩
  | .hbm, ⟨8, _⟩ => ⟨S1000, .f32⟩
  | .hbm, ⟨9, _⟩ => ⟨S64x100000, .f32⟩
  | .hbm, ⟨10, _⟩ => ⟨S1x128, .f32⟩
  | .hbm, ⟨11, _⟩ => ⟨S100000x128, .f32⟩
  | .hbm, ⟨12, _⟩ => ⟨S50x1024, .i32⟩
  | .hbm, ⟨13, _⟩ => ⟨S51200, .i32⟩
  | .hbm, ⟨14, _⟩ => ⟨S_, .i32⟩
  | .hbm, ⟨15, _⟩ => ⟨S_, .i32⟩
  | .hbm, ⟨16, _⟩ => ⟨S52096, .i32⟩
  | .hbm, ⟨17, _⟩ => ⟨S51200x128, .f32⟩
  | .hbm, ⟨18, _⟩ => ⟨S1000x128, .f32⟩
  | .hbm, ⟨19, _⟩ => ⟨S1000x1, .f32⟩
  | .hbm, ⟨20, _⟩ => ⟨S50x1000x1024, .f32⟩
  | .hbm, ⟨21, _⟩ => ⟨S1024x50x1000, .f32⟩
  | .local .tc .vmem, ⟨0, _⟩ => ⟨S64x12544, .f32⟩
  | .local .tc .vmem, ⟨1, _⟩ => ⟨S64x12544, .f32⟩
  | .local .tc .vmem, ⟨2, _⟩ => ⟨S64x128, .f32⟩
  | .local .tc .vmem, ⟨3, _⟩ => ⟨S1x128, .f32⟩
  | .local .tc .vmem, ⟨4, _⟩ => ⟨S12544x128, .f32⟩
  | .local .tc .vmem, ⟨5, _⟩ => ⟨S12544x128, .f32⟩
  | .local .tc .vmem, ⟨6, _⟩ => ⟨S2048x128, .f32⟩
  | .local .tc .vmem, ⟨7, _⟩ => ⟨S2048x128, .f32⟩
  | .local .tc .vmem, ⟨8, _⟩ => ⟨S1000x128, .f32⟩
  | .local .tc .vmem, ⟨9, _⟩ => ⟨S1000x1, .f32⟩
  | .local .tc .vmem, ⟨10, _⟩ => ⟨S2x1000x1024, .f32⟩
  | .local .tc .vmem, ⟨11, _⟩ => ⟨S2x1000x1024, .f32⟩
  | .local .scVector .vmem, ⟨0, _⟩ => ⟨S2048, .i32⟩
  | .local .scVector .vmem, ⟨1, _⟩ => ⟨S4x128x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v5_scv : Ref sig .scVector := ⟨.hbm, 16, rfl⟩
abbrev main_v2_scv : Ref sig .scVector := ⟨.hbm, 11, rfl⟩
abbrev main_v6_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem3_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_mult1 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c128_i32 : BitVec 32 := 128#32
  let v7 : BitVec 32 := Scalar.muli v6 c128_i32
  v7
def k1_off1 (i : grid1.Coords) : Fin 1 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c128_i32 : BitVec 32 := 128#32
  let v7 : BitVec 32 := Scalar.muli v6 c128_i32
  let v8 : BitVec 32 := v7
  ![v8.toNat]
def k1_cond5 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c0_i32_8 : BitVec 32 := 0#32
  let v21 : BitVec 1 := Scalar.cmpi .sgt v1 c0_i32_8
  let v22 : BitVec 32 := Scalar.extui v21
  let c0_i32_9 : BitVec 32 := 0#32
  let v23 : BitVec 1 := Scalar.cmpi .ne v22 c0_i32_9
  v23

def k1_mult2 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c0_i32_60 : BitVec 32 := 0#32
  let v111 : BitVec 32 := Scalar.addi v6 c0_i32_60
  let c128_i32_61 : BitVec 32 := 128#32
  let v112 : BitVec 32 := Scalar.muli v111 c128_i32_61
  v112
def k1_off2 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c0_i32_60 : BitVec 32 := 0#32
  let v111 : BitVec 32 := Scalar.addi v6 c0_i32_60
  let c128_i32_61 : BitVec 32 := 128#32
  let v112 : BitVec 32 := Scalar.muli v111 c128_i32_61
  let v113 : BitVec 32 := v112
  let c0_i32_65_r1 : BitVec 32 := 0#32
  ![v113.toNat, 0]
def k1_cond7 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c1_i32_11 : BitVec 32 := 1#32
  let v27 : BitVec 1 := Scalar.cmpi .sgt v1 c1_i32_11
  let v28 : BitVec 32 := Scalar.extui v27
  let c0_i32_12 : BitVec 32 := 0#32
  let v29 : BitVec 1 := Scalar.cmpi .ne v28 c0_i32_12
  v29

def k1_mult3 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c1_i32_60 : BitVec 32 := 1#32
  let v111 : BitVec 32 := Scalar.addi v6 c1_i32_60
  let c128_i32_61 : BitVec 32 := 128#32
  let v112 : BitVec 32 := Scalar.muli v111 c128_i32_61
  v112
def k1_off3 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c1_i32_60 : BitVec 32 := 1#32
  let v111 : BitVec 32 := Scalar.addi v6 c1_i32_60
  let c128_i32_61 : BitVec 32 := 128#32
  let v112 : BitVec 32 := Scalar.muli v111 c128_i32_61
  let v113 : BitVec 32 := v112
  let c0_i32_65_r2 : BitVec 32 := 0#32
  ![v113.toNat, 0]
def k1_cond9 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c2_i32_14 : BitVec 32 := 2#32
  let v33 : BitVec 1 := Scalar.cmpi .sgt v1 c2_i32_14
  let v34 : BitVec 32 := Scalar.extui v33
  let c0_i32_15 : BitVec 32 := 0#32
  let v35 : BitVec 1 := Scalar.cmpi .ne v34 c0_i32_15
  v35

def k1_mult4 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c2_i32_60 : BitVec 32 := 2#32
  let v111 : BitVec 32 := Scalar.addi v6 c2_i32_60
  let c128_i32_61 : BitVec 32 := 128#32
  let v112 : BitVec 32 := Scalar.muli v111 c128_i32_61
  v112
def k1_off4 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c2_i32_60 : BitVec 32 := 2#32
  let v111 : BitVec 32 := Scalar.addi v6 c2_i32_60
  let c128_i32_61 : BitVec 32 := 128#32
  let v112 : BitVec 32 := Scalar.muli v111 c128_i32_61
  let v113 : BitVec 32 := v112
  let c0_i32_65_r3 : BitVec 32 := 0#32
  ![v113.toNat, 0]
def k1_cond11 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c3_i32_17 : BitVec 32 := 3#32
  let v39 : BitVec 1 := Scalar.cmpi .sgt v1 c3_i32_17
  let v40 : BitVec 32 := Scalar.extui v39
  let c0_i32_18 : BitVec 32 := 0#32
  let v41 : BitVec 1 := Scalar.cmpi .ne v40 c0_i32_18
  v41

def k1_mult5 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c3_i32_59 : BitVec 32 := 3#32
  let v111 : BitVec 32 := Scalar.addi v6 c3_i32_59
  let c128_i32_60 : BitVec 32 := 128#32
  let v112 : BitVec 32 := Scalar.muli v111 c128_i32_60
  v112
def k1_off5 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c3_i32_59 : BitVec 32 := 3#32
  let v111 : BitVec 32 := Scalar.addi v6 c3_i32_59
  let c128_i32_60 : BitVec 32 := 128#32
  let v112 : BitVec 32 := Scalar.muli v111 c128_i32_60
  let v113 : BitVec 32 := v112
  let c0_i32_64_r4 : BitVec 32 := 0#32
  ![v113.toNat, 0]
def k1_cond13 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c4_i32_20 : BitVec 32 := 4#32
  let v45 : BitVec 1 := Scalar.cmpi .sgt v1 c4_i32_20
  let v46 : BitVec 32 := Scalar.extui v45
  let c0_i32_21 : BitVec 32 := 0#32
  let v47 : BitVec 1 := Scalar.cmpi .ne v46 c0_i32_21
  v47

def k1_mult6 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c4_i32_59 : BitVec 32 := 4#32
  let v111 : BitVec 32 := Scalar.addi v6 c4_i32_59
  let c128_i32_60 : BitVec 32 := 128#32
  let v112 : BitVec 32 := Scalar.muli v111 c128_i32_60
  v112
def k1_off6 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c4_i32_59 : BitVec 32 := 4#32
  let v111 : BitVec 32 := Scalar.addi v6 c4_i32_59
  let c128_i32_60 : BitVec 32 := 128#32
  let v112 : BitVec 32 := Scalar.muli v111 c128_i32_60
  let v113 : BitVec 32 := v112
  let c0_i32_64_r5 : BitVec 32 := 0#32
  ![v113.toNat, 0]
def k1_cond15 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c5_i32_23 : BitVec 32 := 5#32
  let v51 : BitVec 1 := Scalar.cmpi .sgt v1 c5_i32_23
  let v52 : BitVec 32 := Scalar.extui v51
  let c0_i32_24 : BitVec 32 := 0#32
  let v53 : BitVec 1 := Scalar.cmpi .ne v52 c0_i32_24
  v53

def k1_mult7 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c5_i32_59 : BitVec 32 := 5#32
  let v111 : BitVec 32 := Scalar.addi v6 c5_i32_59
  let c128_i32_60 : BitVec 32 := 128#32
  let v112 : BitVec 32 := Scalar.muli v111 c128_i32_60
  v112
def k1_off7 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c5_i32_59 : BitVec 32 := 5#32
  let v111 : BitVec 32 := Scalar.addi v6 c5_i32_59
  let c128_i32_60 : BitVec 32 := 128#32
  let v112 : BitVec 32 := Scalar.muli v111 c128_i32_60
  let v113 : BitVec 32 := v112
  let c0_i32_64_r6 : BitVec 32 := 0#32
  ![v113.toNat, 0]
def k1_cond17 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c6_i32_27 : BitVec 32 := 6#32
  let v57 : BitVec 1 := Scalar.cmpi .sgt v1 c6_i32_27
  let v58 : BitVec 32 := Scalar.extui v57
  let c0_i32_28 : BitVec 32 := 0#32
  let v59 : BitVec 1 := Scalar.cmpi .ne v58 c0_i32_28
  v59

def k1_mult8 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c6_i32_59 : BitVec 32 := 6#32
  let v111 : BitVec 32 := Scalar.addi v6 c6_i32_59
  let c128_i32_60 : BitVec 32 := 128#32
  let v112 : BitVec 32 := Scalar.muli v111 c128_i32_60
  v112
def k1_off8 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c6_i32_59 : BitVec 32 := 6#32
  let v111 : BitVec 32 := Scalar.addi v6 c6_i32_59
  let c128_i32_60 : BitVec 32 := 128#32
  let v112 : BitVec 32 := Scalar.muli v111 c128_i32_60
  let v113 : BitVec 32 := v112
  let c0_i32_64_r7 : BitVec 32 := 0#32
  ![v113.toNat, 0]
def k1_cond19 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c7_i32_30 : BitVec 32 := 7#32
  let v63 : BitVec 1 := Scalar.cmpi .sgt v1 c7_i32_30
  let v64 : BitVec 32 := Scalar.extui v63
  let c0_i32_31 : BitVec 32 := 0#32
  let v65 : BitVec 1 := Scalar.cmpi .ne v64 c0_i32_31
  v65

def k1_mult9 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c7_i32_59 : BitVec 32 := 7#32
  let v111 : BitVec 32 := Scalar.addi v6 c7_i32_59
  let c128_i32_60 : BitVec 32 := 128#32
  let v112 : BitVec 32 := Scalar.muli v111 c128_i32_60
  v112
def k1_off9 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c7_i32_59 : BitVec 32 := 7#32
  let v111 : BitVec 32 := Scalar.addi v6 c7_i32_59
  let c128_i32_60 : BitVec 32 := 128#32
  let v112 : BitVec 32 := Scalar.muli v111 c128_i32_60
  let v113 : BitVec 32 := v112
  let c0_i32_64_r8 : BitVec 32 := 0#32
  ![v113.toNat, 0]
def k1_cond21 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c8_i32_33 : BitVec 32 := 8#32
  let v69 : BitVec 1 := Scalar.cmpi .sgt v1 c8_i32_33
  let v70 : BitVec 32 := Scalar.extui v69
  let c0_i32_34 : BitVec 32 := 0#32
  let v71 : BitVec 1 := Scalar.cmpi .ne v70 c0_i32_34
  v71

def k1_mult10 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c8_i32_59 : BitVec 32 := 8#32
  let v111 : BitVec 32 := Scalar.addi v6 c8_i32_59
  let c128_i32_60 : BitVec 32 := 128#32
  let v112 : BitVec 32 := Scalar.muli v111 c128_i32_60
  v112
def k1_off10 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c8_i32_59 : BitVec 32 := 8#32
  let v111 : BitVec 32 := Scalar.addi v6 c8_i32_59
  let c128_i32_60 : BitVec 32 := 128#32
  let v112 : BitVec 32 := Scalar.muli v111 c128_i32_60
  let v113 : BitVec 32 := v112
  let c0_i32_64_r9 : BitVec 32 := 0#32
  ![v113.toNat, 0]
def k1_cond23 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c9_i32_36 : BitVec 32 := 9#32
  let v75 : BitVec 1 := Scalar.cmpi .sgt v1 c9_i32_36
  let v76 : BitVec 32 := Scalar.extui v75
  let c0_i32_37 : BitVec 32 := 0#32
  let v77 : BitVec 1 := Scalar.cmpi .ne v76 c0_i32_37
  v77

def k1_mult11 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c9_i32_59 : BitVec 32 := 9#32
  let v111 : BitVec 32 := Scalar.addi v6 c9_i32_59
  let c128_i32_60 : BitVec 32 := 128#32
  let v112 : BitVec 32 := Scalar.muli v111 c128_i32_60
  v112
def k1_off11 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c9_i32_59 : BitVec 32 := 9#32
  let v111 : BitVec 32 := Scalar.addi v6 c9_i32_59
  let c128_i32_60 : BitVec 32 := 128#32
  let v112 : BitVec 32 := Scalar.muli v111 c128_i32_60
  let v113 : BitVec 32 := v112
  let c0_i32_64_r10 : BitVec 32 := 0#32
  ![v113.toNat, 0]
def k1_cond25 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c10_i32_39 : BitVec 32 := 10#32
  let v81 : BitVec 1 := Scalar.cmpi .sgt v1 c10_i32_39
  let v82 : BitVec 32 := Scalar.extui v81
  let c0_i32_40 : BitVec 32 := 0#32
  let v83 : BitVec 1 := Scalar.cmpi .ne v82 c0_i32_40
  v83

def k1_mult12 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c10_i32_59 : BitVec 32 := 10#32
  let v111 : BitVec 32 := Scalar.addi v6 c10_i32_59
  let c128_i32_60 : BitVec 32 := 128#32
  let v112 : BitVec 32 := Scalar.muli v111 c128_i32_60
  v112
def k1_off12 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c10_i32_59 : BitVec 32 := 10#32
  let v111 : BitVec 32 := Scalar.addi v6 c10_i32_59
  let c128_i32_60 : BitVec 32 := 128#32
  let v112 : BitVec 32 := Scalar.muli v111 c128_i32_60
  let v113 : BitVec 32 := v112
  let c0_i32_64_r11 : BitVec 32 := 0#32
  ![v113.toNat, 0]
def k1_cond27 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c11_i32_42 : BitVec 32 := 11#32
  let v87 : BitVec 1 := Scalar.cmpi .sgt v1 c11_i32_42
  let v88 : BitVec 32 := Scalar.extui v87
  let c0_i32_43 : BitVec 32 := 0#32
  let v89 : BitVec 1 := Scalar.cmpi .ne v88 c0_i32_43
  v89

def k1_mult13 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c11_i32_59 : BitVec 32 := 11#32
  let v111 : BitVec 32 := Scalar.addi v6 c11_i32_59
  let c128_i32_60 : BitVec 32 := 128#32
  let v112 : BitVec 32 := Scalar.muli v111 c128_i32_60
  v112
def k1_off13 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c11_i32_59 : BitVec 32 := 11#32
  let v111 : BitVec 32 := Scalar.addi v6 c11_i32_59
  let c128_i32_60 : BitVec 32 := 128#32
  let v112 : BitVec 32 := Scalar.muli v111 c128_i32_60
  let v113 : BitVec 32 := v112
  let c0_i32_64_r12 : BitVec 32 := 0#32
  ![v113.toNat, 0]
def k1_cond29 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c12_i32_45 : BitVec 32 := 12#32
  let v93 : BitVec 1 := Scalar.cmpi .sgt v1 c12_i32_45
  let v94 : BitVec 32 := Scalar.extui v93
  let c0_i32_46 : BitVec 32 := 0#32
  let v95 : BitVec 1 := Scalar.cmpi .ne v94 c0_i32_46
  v95

def k1_mult14 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c12_i32_59 : BitVec 32 := 12#32
  let v111 : BitVec 32 := Scalar.addi v6 c12_i32_59
  let c128_i32_60 : BitVec 32 := 128#32
  let v112 : BitVec 32 := Scalar.muli v111 c128_i32_60
  v112
def k1_off14 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c12_i32_59 : BitVec 32 := 12#32
  let v111 : BitVec 32 := Scalar.addi v6 c12_i32_59
  let c128_i32_60 : BitVec 32 := 128#32
  let v112 : BitVec 32 := Scalar.muli v111 c128_i32_60
  let v113 : BitVec 32 := v112
  let c0_i32_64_r13 : BitVec 32 := 0#32
  ![v113.toNat, 0]
def k1_cond30 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c13_i32_47 : BitVec 32 := 13#32
  let v96 : BitVec 1 := Scalar.cmpi .sgt v1 c13_i32_47
  let v97 : BitVec 32 := Scalar.extui v96
  let c0_i32_48 : BitVec 32 := 0#32
  let v98 : BitVec 1 := Scalar.cmpi .ne v97 c0_i32_48
  v98

def k1_mult15 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c13_i32_59 : BitVec 32 := 13#32
  let v111 : BitVec 32 := Scalar.addi v6 c13_i32_59
  let c128_i32_60 : BitVec 32 := 128#32
  let v112 : BitVec 32 := Scalar.muli v111 c128_i32_60
  v112
def k1_off15 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c13_i32_59 : BitVec 32 := 13#32
  let v111 : BitVec 32 := Scalar.addi v6 c13_i32_59
  let c128_i32_60 : BitVec 32 := 128#32
  let v112 : BitVec 32 := Scalar.muli v111 c128_i32_60
  let v113 : BitVec 32 := v112
  let c0_i32_64_r14 : BitVec 32 := 0#32
  ![v113.toNat, 0]
def k1_cond31 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c14_i32_49 : BitVec 32 := 14#32
  let v99 : BitVec 1 := Scalar.cmpi .sgt v1 c14_i32_49
  let v100 : BitVec 32 := Scalar.extui v99
  let c0_i32_50 : BitVec 32 := 0#32
  let v101 : BitVec 1 := Scalar.cmpi .ne v100 c0_i32_50
  v101

def k1_mult16 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c14_i32_59 : BitVec 32 := 14#32
  let v111 : BitVec 32 := Scalar.addi v6 c14_i32_59
  let c128_i32_60 : BitVec 32 := 128#32
  let v112 : BitVec 32 := Scalar.muli v111 c128_i32_60
  v112
def k1_off16 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c14_i32_59 : BitVec 32 := 14#32
  let v111 : BitVec 32 := Scalar.addi v6 c14_i32_59
  let c128_i32_60 : BitVec 32 := 128#32
  let v112 : BitVec 32 := Scalar.muli v111 c128_i32_60
  let v113 : BitVec 32 := v112
  let c0_i32_64_r15 : BitVec 32 := 0#32
  ![v113.toNat, 0]
def k1_cond32 (i : grid1.Coords) : BitVec 1 :=
  let arg0 : BitVec 32 := BitVec.ofNat 32 (i 0).val
  let c0_i32 : BitVec 32 := 0#32
  let v0 : BitVec 1 := Scalar.cmpi .eq arg0 c0_i32
  let c16_i32 : BitVec 32 := 16#32
  let c9_i32 : BitVec 32 := 9#32
  let v1 : BitVec 32 := Scalar.select v0 c16_i32 c9_i32
  let c15_i32_51 : BitVec 32 := 15#32
  let v102 : BitVec 1 := Scalar.cmpi .sgt v1 c15_i32_51
  let v103 : BitVec 32 := Scalar.extui v102
  let c0_i32_52 : BitVec 32 := 0#32
  let v104 : BitVec 1 := Scalar.cmpi .ne v103 c0_i32_52
  v104

def k1_mult17 (i : grid1.Coords) : BitVec 32 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c15_i32_59 : BitVec 32 := 15#32
  let v111 : BitVec 32 := Scalar.addi v6 c15_i32_59
  let c128_i32_60 : BitVec 32 := 128#32
  let v112 : BitVec 32 := Scalar.muli v111 c128_i32_60
  v112
def k1_off17 (i : grid1.Coords) : Fin 2 → Nat :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c16_i32_1 : BitVec 32 := 16#32
  let v3 : BitVec 32 := Scalar.muli arg1 c16_i32_1
  let c256_i32 : BitVec 32 := 256#32
  let c9_i32_2 : BitVec 32 := 9#32
  let v4 : BitVec 32 := Scalar.muli arg1 c9_i32_2
  let v5 : BitVec 32 := Scalar.addi c256_i32 v4
  let v6 : BitVec 32 := Scalar.select v2 v3 v5
  let c15_i32_59 : BitVec 32 := 15#32
  let v111 : BitVec 32 := Scalar.addi v6 c15_i32_59
  let c128_i32_60 : BitVec 32 := 128#32
  let v112 : BitVec 32 := Scalar.muli v111 c128_i32_60
  let v113 : BitVec 32 := v112
  let c0_i32_64_r16 : BitVec 32 := 0#32
  ![v113.toNat, 0]
abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1000x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2x1000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S100000x64 : Shape := ⟨2, ![100000, 64]⟩
abbrev S64x128 : Shape := ⟨2, ![64, 128]⟩
abbrev S128 : Shape := ⟨1, ![128]⟩
abbrev S128x1000 : Shape := ⟨2, ![128, 1000]⟩
abbrev S1000 : Shape := ⟨1, ![1000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x64 : Shape := ⟨3, ![1024, 50, 64]⟩
abbrev S1024x50x128 : Shape := ⟨3, ![1024, 50, 128]⟩
abbrev S1x1x128 : Shape := ⟨3, ![1, 1, 128]⟩
abbrev S1024x50x1000 : Shape := ⟨3, ![1024, 50, 1000]⟩
abbrev S1x1x1000 : Shape := ⟨3, ![1, 1, 1000]⟩

abbrev nBuf : Space → Nat
  | .hbm => 57
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1024x50, .i32⟩
  | .hbm, ⟨2, _⟩ => ⟨S100000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x1000, .f32⟩
  | .hbm, ⟨8, _⟩ => ⟨S1000, .f32⟩
  | .hbm, ⟨9, _⟩ => ⟨S_, .i32⟩
  | .hbm, ⟨10, _⟩ => ⟨S1024x50, .i32⟩
  | .hbm, ⟨11, _⟩ => ⟨S1024x50, .i1⟩
  | .hbm, ⟨12, _⟩ => ⟨S_, .i32⟩
  | .hbm, ⟨13, _⟩ => ⟨S1024x50, .i32⟩
  | .hbm, ⟨14, _⟩ => ⟨S1024x50, .i32⟩
  | .hbm, ⟨15, _⟩ => ⟨S1024x50, .i32⟩
  | .hbm, ⟨16, _⟩ => ⟨S1024x50x1, .i32⟩
  | .hbm, ⟨17, _⟩ => ⟨S1, .i32⟩
  | .hbm, ⟨18, _⟩ => ⟨S_, .i32⟩
  | .hbm, ⟨19, _⟩ => ⟨S1024x50x1, .i32⟩
  | .hbm, ⟨20, _⟩ => ⟨S1024x50x1, .i1⟩
  | .hbm, ⟨21, _⟩ => ⟨S1x1x1, .i32⟩
  | .hbm, ⟨22, _⟩ => ⟨S1024x50x1, .i32⟩
  | .hbm, ⟨23, _⟩ => ⟨S1024x50x1, .i1⟩
  | .hbm, ⟨24, _⟩ => ⟨S1024x50x1, .i1⟩
  | .hbm, ⟨25, _⟩ => ⟨S_, .i1⟩
  | .hbm, ⟨26, _⟩ => ⟨S1024x50, .i1⟩
  | .hbm, ⟨27, _⟩ => ⟨S1024x50x64, .f32⟩
  | .hbm, ⟨28, _⟩ => ⟨S1024x50x64, .i1⟩
  | .hbm, ⟨29, _⟩ => ⟨S_, .f32⟩
  | .hbm, ⟨30, _⟩ => ⟨S1024x50x64, .f32⟩
  | .hbm, ⟨31, _⟩ => ⟨S1024x50x64, .f32⟩
  | .hbm, ⟨32, _⟩ => ⟨S1024x50x128, .f32⟩
  | .hbm, ⟨33, _⟩ => ⟨S1x1x128, .f32⟩
  | .hbm, ⟨34, _⟩ => ⟨S1024x50x128, .f32⟩
  | .hbm, ⟨35, _⟩ => ⟨S1024x50x128, .f32⟩
  | .hbm, ⟨36, _⟩ => ⟨S_, .f32⟩
  | .hbm, ⟨37, _⟩ => ⟨S1024x50x128, .f32⟩
  | .hbm, ⟨38, _⟩ => ⟨S1024x50x128, .f32⟩
  | .hbm, ⟨39, _⟩ => ⟨S1024x50x1000, .f32⟩
  | .hbm, ⟨40, _⟩ => ⟨S1x1x1000, .f32⟩
  | .hbm, ⟨41, _⟩ => ⟨S1024x50x1000, .f32⟩
  | .hbm, ⟨42, _⟩ => ⟨S1024x50x1000, .f32⟩
  | .hbm, ⟨43, _⟩ => ⟨S_, .f32⟩
  | .hbm, ⟨44, _⟩ => ⟨S1024x50, .f32⟩
  | .hbm, ⟨45, _⟩ => ⟨S_, .f32⟩
  | .hbm, ⟨46, _⟩ => ⟨S1024x50, .f32⟩
  | .hbm, ⟨47, _⟩ => ⟨S1024x50, .f32⟩
  | .hbm, ⟨48, _⟩ => ⟨S1024x50x1, .f32⟩
  | .hbm, ⟨49, _⟩ => ⟨S1024x50x1000, .f32⟩
  | .hbm, ⟨50, _⟩ => ⟨S1024x50x1000, .f32⟩
  | .hbm, ⟨51, _⟩ => ⟨S1024x50x1000, .f32⟩
  | .hbm, ⟨52, _⟩ => ⟨S_, .f32⟩
  | .hbm, ⟨53, _⟩ => ⟨S1024x50, .f32⟩
  | .hbm, ⟨54, _⟩ => ⟨S1024x50x1, .f32⟩
  | .hbm, ⟨55, _⟩ => ⟨S1024x50x1000, .f32⟩
  | .hbm, ⟨56, _⟩ => ⟨S1024x50x1000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_2 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩

abbrev nD : Nat := 1
abbrev τ : Topo := Topo.v7x

variable {F : FTy → Type} [FloatOps F]
-- ==== Proof.Task.lean ====
/-
  The SparseCore task as a list of steps. The printed body of `cc1_sc_gather` writes its sixteen gather starts and its
  sixteen gather finishes out one by one; here a start and a finish are each ONE definition in the chunk's number, and the
  body is the index copy followed by the schedule's steps in order.
-/
module

public import proofs.«01_k».proof.Defs
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic Idealize.SL.Sem

variable {F : FTy → Type}

/-! ## The memrefs a step names -/

/-- The padded index list, the table, the gathered rows; a tile's index scratch and its ring of four row buffers. -/
abbrev idxM : Memref sig .scVector .hbm S52096 .i32 := Memref.whole main_v5_scv
abbrev tabM : Memref sig .scVector .hbm S100000x128 .f32 := Memref.whole main_v2_scv
abbrev outM : Memref sig .scVector .hbm S51200x128 .f32 := Memref.whole main_v6_scv
abbrev lstM : Memref sig .scVector .vmem S2048 .i32 := Memref.whole cc1_scratch0
abbrev rngM : Memref sig .scVector .vmem S4x128x128 .f32 := Memref.whole cc1_scratch1

/-- The ring buffer chunk `j` uses. -/
def bOf (j : Fin 16) : Fin 4 := ⟨j.val % 4, Nat.mod_lt _ (by decide)⟩

theorem inb_slot (b : Fin 4) : ∀ a, (![b.val, 0, 0] : Fin 3 → Nat) a + S1x128x128.size a ≤ S4x128x128.size a := by revert b; decide
theorem inb_list (j : Fin 16) : ∀ a, (![128 * j.val] : Fin 1 → Nat) a + S128.size a ≤ S2048.size a := by revert j; decide
theorem inb_sem (b : Fin 4) : ∀ a, (![b.val] : Fin 1 → Nat) a + S1.size a ≤ S4.size a := by revert b; decide

/-- Ring buffer `b`, one gathered chunk. -/
def slotM (b : Fin 4) : Memref sig .scVector .vmem S128x128 .f32 :=
  (rngM.slice (Rect.unit (s := S4x128x128) ![b.val, 0, 0] S1x128x128.size (inb_slot b)) (fun _ => rfl)).squeeze S128x128 squeezes_S1x128x128_S128x128
/-- The row numbers of chunk `j` of the task. -/
def listM (j : Fin 16) : Memref sig .scVector .vmem S128 .i32 :=
  lstM.slice (Rect.unit (s := S2048) ![128 * j.val] S128.size (inb_list j)) (fun _ => rfl)
/-- The whole table, as a gather's source spells it. -/
def srcM : Memref sig .scVector .hbm S100000x128 .f32 :=
  tabM.slice (Rect.unit (s := S100000x128) ![0, 0] S100000x128.size inb_S100000x128_S100000x128_0_0) (fun _ => rfl)
/-- The semaphore of ring buffer `b`. -/
def semM (b : Fin 4) : DmaSem sig :=
  ((cc1_scratch2.slice (Rect.unit (s := S4) ![b.val] S1.size (inb_sem b))).squeeze S_ squeezes_S1_S_).sem
/-- The semaphore of the copy that writes chunk `j` out. -/
def outSem (j : Fin 16) : DmaSem sig :=
  ((![cc1_scoped1, cc1_scoped2, cc1_scoped3, cc1_scoped4, cc1_scoped5, cc1_scoped6, cc1_scoped7, cc1_scoped8, cc1_scoped9, cc1_scoped10,
    cc1_scoped11, cc1_scoped12, cc1_scoped13, cc1_scoped14, cc1_scoped15, cc1_scoped16] : Fin 16 → DmaSems sig S_) j).sem

/-- The task's number of chunks and its first chunk, as words the body computes from the grid coordinates. -/
def nW (i : grid1.Coords) : BitVec 32 := Scalar.select (Scalar.cmpi .eq (BitVec.ofNat 32 (i 0).val) 0#32) 16#32 9#32
def baseW (i : grid1.Coords) : BitVec 32 :=
  Scalar.select (Scalar.cmpi .eq (BitVec.ofNat 32 (i 0).val) 0#32) (Scalar.muli (BitVec.ofNat 32 (i 1).val) 16#32)
    (Scalar.addi 256#32 (Scalar.muli (BitVec.ofNat 32 (i 1).val) 9#32))
/-- Whether the task has a chunk `j`. -/
def condW (i : grid1.Coords) (j : Fin 16) : BitVec 1 :=
  Scalar.cmpi .ne (Scalar.extui (Scalar.cmpi .sgt (nW i) (BitVec.ofNat 32 j.val)) : BitVec 32) 0#32
/-- The first row of chunk `j` of the task in the gathered rows. -/
def offW (i : grid1.Coords) (j : Fin 16) : Fin 2 → Nat :=
  ![(Scalar.muli (Scalar.addi (baseW i) (BitVec.ofNat 32 j.val)) 128#32).toNat, 0]

theorem inb_out : ∀ i : grid1.Coords, ∀ j : Fin 16, condW i j = 1#1 → ∀ a, (offW i j) a + S128x128.size a ≤ S51200x128.size a := by decide +kernel

/-- Chunk `j`'s rows of the result. -/
def chunkM (i : grid1.Coords) (j : Fin 16) (h : condW i j = 1#1) : Memref sig .scVector .hbm S128x128 .f32 :=
  outM.slice (Rect.unit (s := S51200x128) (offW i j) S128x128.size (inb_out i j h)) (fun _ => rfl)

/-! ## The steps -/

/-- The index copy: the task's row numbers into its scratch, and the wait for them. -/
def copyP (i : grid1.Coords) {α : Type} (k : Prog (TpuEff nD τ sig (Elt F) Λ₀ (.scVector ((i 0).castLE hcore1) ((i 1).castLE hsub1))) α) :
    Prog (TpuEff nD τ sig (Elt F) Λ₀ (.scVector ((i 0).castLE hcore1) ((i 1).castLE hsub1))) α := do
  Prog.lift (.enqueueDma (idxM.slice (Rect.unit (s := S52096) (k1_off1 i) S2048.size (k1_off1_inb i)) (fun _ => rfl)) (.here lstM) (.dma cc1_scoped0.sem) (View.wordExact_bits rfl) (Memref.isWhole_whole _).wordExact ⟨Or.inl rfl, trivial⟩)
  Prog.lift (.waitDma2 cc1_scoped0.sem (idxM.slice (Rect.unit (s := S52096) (k1_off1 i) S2048.size (k1_off1_inb i)) (fun _ => rfl)) lstM (View.wordExact_bits rfl) (Memref.isWhole_whole _).wordExact)
  k

/-- The gather of chunk `j`, then `k`. -/
def startB (i : grid1.Coords) (j : Fin 16) {α : Type} (k : Prog (TpuEff nD τ sig (Elt F) Λ₀ (.scVector ((i 0).castLE hcore1) ((i 1).castLE hsub1))) α) : Prog (TpuEff nD τ sig (Elt F) Λ₀ (.scVector ((i 0).castLE hcore1) ((i 1).castLE hsub1))) α := do
  SparseCore.enqueueIndirectGather rfl srcM (slotM (bOf j)) gathers_S100000x128_S128x128 (listM j) rfl (semM (bOf j)) (View.wordExact_bits rfl) rfl (Or.inl rfl)
  k
/-- Starting chunk `j`, where the task has one, then `k`. -/
def startP (i : grid1.Coords) (j : Fin 16) {α : Type} (k : Prog (TpuEff nD τ sig (Elt F) Λ₀ (.scVector ((i 0).castLE hcore1) ((i 1).castLE hsub1))) α) : Prog (TpuEff nD τ sig (Elt F) Λ₀ (.scVector ((i 0).castLE hcore1) ((i 1).castLE hsub1))) α :=
  dite (condW i j = 1#1) (fun _ => startB i j k) fun _ => k

/-- Waiting for chunk `j`'s rows and writing them out, then `k`. -/
def finB (i : grid1.Coords) (j : Fin 16) (h : condW i j = 1#1) {α : Type} (k : Prog (TpuEff nD τ sig (Elt F) Λ₀ (.scVector ((i 0).castLE hcore1) ((i 1).castLE hsub1))) α) : Prog (TpuEff nD τ sig (Elt F) Λ₀ (.scVector ((i 0).castLE hcore1) ((i 1).castLE hsub1))) α := do
  SparseCore.waitIndirectGather (semM (bOf j)) srcM (slotM (bOf j)) (View.wordExact_bits rfl) (View.wordExact_bits rfl)
  Prog.lift (.enqueueDma (slotM (bOf j)) (.here (chunkM i j h)) (.dma (outSem j)) (View.wordExact_bits rfl) (View.wordExact_bits rfl) ⟨Or.inl rfl, trivial⟩)
  Prog.lift (.waitDma2 (outSem j) (slotM (bOf j)) (chunkM i j h) (View.wordExact_bits rfl) (View.wordExact_bits rfl))
  k
/-- Finishing chunk `j`, where the task has one, then `k`. -/
def finP (i : grid1.Coords) (j : Fin 16) {α : Type} (k : Prog (TpuEff nD τ sig (Elt F) Λ₀ (.scVector ((i 0).castLE hcore1) ((i 1).castLE hsub1))) α) : Prog (TpuEff nD τ sig (Elt F) Λ₀ (.scVector ((i 0).castLE hcore1) ((i 1).castLE hsub1))) α :=
  dite (condW i j = 1#1) (fun h => finB i j h k) fun _ => k

/-- A schedule's steps (`false` starts a chunk, `true` finishes it), then `k`. -/
def runP (i : grid1.Coords) {α : Type} (k : Prog (TpuEff nD τ sig (Elt F) Λ₀ (.scVector ((i 0).castLE hcore1) ((i 1).castLE hsub1))) α) :
    List (Bool × Fin 16) → Prog (TpuEff nD τ sig (Elt F) Λ₀ (.scVector ((i 0).castLE hcore1) ((i 1).castLE hsub1))) α
  | [] => k
  | (false, j) :: l => startP i j (runP i k l)
  | (true, j) :: l => finP i j (runP i k l)

theorem startP_bind (i : grid1.Coords) (j : Fin 16) {α β : Type} (k : Prog (TpuEff nD τ sig (Elt F) Λ₀ (.scVector ((i 0).castLE hcore1) ((i 1).castLE hsub1))) α)
    (g : α → Prog (TpuEff nD τ sig (Elt F) Λ₀ (.scVector ((i 0).castLE hcore1) ((i 1).castLE hsub1))) β) :
    startP i j k >>= g = startP i j (k >>= g) := by unfold startP; split <;> rfl

theorem finP_bind (i : grid1.Coords) (j : Fin 16) {α β : Type} (k : Prog (TpuEff nD τ sig (Elt F) Λ₀ (.scVector ((i 0).castLE hcore1) ((i 1).castLE hsub1))) α)
    (g : α → Prog (TpuEff nD τ sig (Elt F) Λ₀ (.scVector ((i 0).castLE hcore1) ((i 1).castLE hsub1))) β) :
    finP i j k >>= g = finP i j (k >>= g) := by unfold finP; split <;> rfl

theorem runP_bind (i : grid1.Coords) {α β : Type} (k : Prog (TpuEff nD τ sig (Elt F) Λ₀ (.scVector ((i 0).castLE hcore1) ((i 1).castLE hsub1))) α)
    (g : α → Prog (TpuEff nD τ sig (Elt F) Λ₀ (.scVector ((i 0).castLE hcore1) ((i 1).castLE hsub1))) β) :
    ∀ l, runP i k l >>= g = runP i (k >>= g) l
  | [] => rfl
  | (false, j) :: l => by simp only [runP, startP_bind, runP_bind i k g l]
  | (true, j) :: l => by simp only [runP, finP_bind, runP_bind i k g l]

theorem runP_append (i : grid1.Coords) {α : Type} (k : Prog (TpuEff nD τ sig (Elt F) Λ₀ (.scVector ((i 0).castLE hcore1) ((i 1).castLE hsub1))) α) (l' : List (Bool × Fin 16)) :
    ∀ l, runP i (runP i k l') l = runP i k (l ++ l')
  | [] => rfl
  | (false, j) :: l => by simp only [runP, List.cons_append, runP_append i k l' l]
  | (true, j) :: l => by simp only [runP, List.cons_append, runP_append i k l' l]

variable [FloatOps F]

/-- A printed start, its continuation known. -/
theorem start_eq {i : grid1.Coords} {j : Fin 16} {α : Type} {k k' : Prog (TpuEff nD τ sig (Elt F) Λ₀ (.scVector ((i 0).castLE hcore1) ((i 1).castLE hsub1))) α}
    {c : BitVec 1} {X : c = 1#1 → Prog (TpuEff nD τ sig (Elt F) Λ₀ (.scVector ((i 0).castLE hcore1) ((i 1).castLE hsub1))) α} (hk : k = k') (hc : c = condW i j) (hX : X = fun _ => startB i j k) :
    dite (c = 1#1) X (fun _ => k) = startP i j k' := by
  subst hk hc hX; rfl

/-- A printed finish, its continuation known. -/
theorem fin_eq {i : grid1.Coords} {j : Fin 16} {α : Type} {k k' : Prog (TpuEff nD τ sig (Elt F) Λ₀ (.scVector ((i 0).castLE hcore1) ((i 1).castLE hsub1))) α}
    {c : BitVec 1} {X : c = 1#1 → Prog (TpuEff nD τ sig (Elt F) Λ₀ (.scVector ((i 0).castLE hcore1) ((i 1).castLE hsub1))) α} (hk : k = k') (hc : condW i j = c) (hX : X = fun h => finB i j (hc.trans h) k) :
    dite (c = 1#1) X (fun _ => k) = finP i j k' := by
  subst hk hc hX; rfl

/-- The operands the program gives the body, and its semaphores. -/
def bodyP (i : grid1.Coords) := cc1_sc_gather (F := F) i idxM (Memref.isWhole_whole _) tabM (Memref.isWhole_whole _) outM (Memref.isWhole_whole _) lstM (Memref.isWhole_whole _) rngM (Memref.isWhole_whole _) cc1_scratch2 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16
def part1 (i : grid1.Coords) := k1_part1 (F := F) i idxM (Memref.isWhole_whole _) tabM (Memref.isWhole_whole _) outM (Memref.isWhole_whole _) lstM (Memref.isWhole_whole _) rngM (Memref.isWhole_whole _) cc1_scratch2 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16
def part2 (i : grid1.Coords) := k1_part2 (F := F) i idxM (Memref.isWhole_whole _) tabM (Memref.isWhole_whole _) outM (Memref.isWhole_whole _) lstM (Memref.isWhole_whole _) rngM (Memref.isWhole_whole _) cc1_scratch2 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16
def part3 (i : grid1.Coords) := k1_part3 (F := F) i idxM (Memref.isWhole_whole _) tabM (Memref.isWhole_whole _) outM (Memref.isWhole_whole _) lstM (Memref.isWhole_whole _) rngM (Memref.isWhole_whole _) cc1_scratch2 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16

/-! ## The schedule, in the printed parts -/

def sched1 : List (Bool × Fin 16) := [(false, 0), (false, 1), (false, 2), (false, 3), (true, 0)]
def sched2 : List (Bool × Fin 16) := [(false, 4), (true, 1), (false, 5), (true, 2), (false, 6), (true, 3), (false, 7), (true, 4), (false, 8), (true, 5)]
def sched3 : List (Bool × Fin 16) := [(false, 9), (true, 6), (false, 10), (true, 7), (false, 11), (true, 8), (false, 12), (true, 9), (false, 13), (true, 10)]
def sched4 : List (Bool × Fin 16) := [(false, 14), (true, 11), (false, 15), (true, 12), (true, 13), (true, 14), (true, 15)]

set_option maxRecDepth 65536 in
theorem part1_eq (i : grid1.Coords) : part1 (F := F) i = copyP i (runP i (pure ⟨nW i, baseW i, condW i 4⟩) sched1) := by
  unfold part1
  rw [k1_part1_eq_skeleton]
  rfl

set_option maxRecDepth 65536 in
theorem part2_eq (i : grid1.Coords) : part2 (F := F) i (nW i) (baseW i) (condW i 4) = runP i (pure (condW i 9)) sched2 := by
  unfold part2
  rw [k1_part2_eq_skeleton]
  refine start_eq (j := 4) ?_ rfl rfl
  refine fin_eq (j := 1) ?_ rfl rfl
  refine start_eq (j := 5) ?_ rfl rfl
  refine fin_eq (j := 2) ?_ rfl rfl
  refine start_eq (j := 6) ?_ rfl rfl
  refine fin_eq (j := 3) ?_ rfl rfl
  refine start_eq (j := 7) ?_ rfl rfl
  refine fin_eq (j := 4) ?_ rfl rfl
  refine start_eq (j := 8) ?_ rfl rfl
  exact fin_eq (j := 5) rfl rfl rfl

set_option maxRecDepth 65536 in
theorem part3_eq (i : grid1.Coords) : part3 (F := F) i (nW i) (baseW i) (condW i 9) = runP i (pure (condW i 14)) sched3 := by
  unfold part3
  rw [k1_part3_eq_skeleton]
  refine start_eq (j := 9) ?_ rfl rfl
  refine fin_eq (j := 6) ?_ rfl rfl
  refine start_eq (j := 10) ?_ rfl rfl
  refine fin_eq (j := 7) ?_ rfl rfl
  refine start_eq (j := 11) ?_ rfl rfl
  refine fin_eq (j := 8) ?_ rfl rfl
  refine start_eq (j := 12) ?_ rfl rfl
  refine fin_eq (j := 9) ?_ rfl rfl
  refine start_eq (j := 13) ?_ rfl rfl
  exact fin_eq (j := 10) rfl rfl rfl

theorem copyP_bind (i : grid1.Coords) {α β : Type} (k : Prog (TpuEff nD τ sig (Elt F) Λ₀ (.scVector ((i 0).castLE hcore1) ((i 1).castLE hsub1))) α) (g : α → Prog (TpuEff nD τ sig (Elt F) Λ₀ (.scVector ((i 0).castLE hcore1) ((i 1).castLE hsub1))) β) : copyP i k >>= g = copyP i (k >>= g) := rfl

/-- A printed part before the rest, the part known. -/
theorem part_step {i : grid1.Coords} {α β : Type} {x : Prog (TpuEff nD τ sig (Elt F) Λ₀ (.scVector ((i 0).castLE hcore1) ((i 1).castLE hsub1))) α} {g : α → Prog (TpuEff nD τ sig (Elt F) Λ₀ (.scVector ((i 0).castLE hcore1) ((i 1).castLE hsub1))) β} {z : Prog (TpuEff nD τ sig (Elt F) Λ₀ (.scVector ((i 0).castLE hcore1) ((i 1).castLE hsub1))) β} {r : α} {l : List (Bool × Fin 16)}
    (h : x = runP i (pure r) l) (hz : g r = z) : x >>= g = runP i z l := by
  subst hz h; rw [runP_bind]; rfl
theorem part_step' {i : grid1.Coords} {α β : Type} {x : Prog (TpuEff nD τ sig (Elt F) Λ₀ (.scVector ((i 0).castLE hcore1) ((i 1).castLE hsub1))) α} {g : α → Prog (TpuEff nD τ sig (Elt F) Λ₀ (.scVector ((i 0).castLE hcore1) ((i 1).castLE hsub1))) β} {z : Prog (TpuEff nD τ sig (Elt F) Λ₀ (.scVector ((i 0).castLE hcore1) ((i 1).castLE hsub1))) β} {r : α} {l : List (Bool × Fin 16)}
    (h : x = copyP i (runP i (pure r) l)) (hz : g r = z) : x >>= g = copyP i (runP i z l) := by
  subst hz h; rw [copyP_bind, runP_bind]; rfl

set_option maxRecDepth 65536 in
/-- The printed body: the index copy, then the schedule. -/
theorem bodyP_eq (i : grid1.Coords) : bodyP (F := F) i = copyP i (runP i (pure ⟨⟩) (sched1 ++ (sched2 ++ (sched3 ++ sched4)))) := by
  unfold bodyP
  rw [cc1_sc_gather_eq_skeleton]
  unfold cc1_sc_gather_skel
  rw [← runP_append, ← runP_append, ← runP_append]
  refine part_step' (part1_eq i) ?_
  refine part_step (part2_eq i) ?_
  refine part_step (part3_eq i) ?_
  refine start_eq (j := 14) ?_ rfl rfl
  refine fin_eq (j := 11) ?_ rfl rfl
  refine start_eq (j := 15) ?_ rfl rfl
  refine fin_eq (j := 12) ?_ rfl rfl
  refine fin_eq (j := 13) ?_ rfl rfl
  refine fin_eq (j := 14) ?_ rfl rfl
  exact fin_eq (j := 15) rfl rfl rfl

end Cert.Proof.Sc

end
-- ==== Proof.Base.lean ====
/-
  The launch's set-up: the program as the launch theorem sees it, the resource algebra, and the arrays the SparseCore
  call works on, with what a task's share of the gathered rows is.
-/
module

public import proofs.«01_k».proof.Proof.Task
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

local notation "𝕄" => MT nD τ sig (HIx 1) (Elt F) ℕ UU ℕ

instance EP_landsIn : (EP : Emb UP 𝕄).LandsIn (upEmb : UEmb _ 𝕄) := by unfold EP; infer_instance

/-! ## The arrays of the call -/

abbrev iLoc (d : Dev nD) : Loc nD τ sig := (SparseCore.T d).loc main_v5
abbrev tLoc (d : Dev nD) : Loc nD τ sig := (SparseCore.T d).loc main_v2
abbrev oLoc (d : Dev nD) : Loc nD τ sig := (SparseCore.T d).loc main_v6

/-- The thread of the task at grid point `i`. -/
abbrev cV (i : grid1.Coords) : Fin τ.nSC := (i 0).castLE hcore1
abbrev jV (i : grid1.Coords) : Fin τ.nSub := (i 1).castLE hsub1
abbrev thr (d : Dev nD) (i : grid1.Coords) : Thread nD τ := V d (cV i) (jV i)

/-- The task's number of chunks and its first chunk. -/
def nC (i : grid1.Coords) : ℕ := if (i 0).val = 0 then 16 else 9
def bC (i : grid1.Coords) : ℕ := if (i 0).val = 0 then 16 * (i 1).val else 9 * (i 1).val + 256

theorem condW_iff : ∀ i : grid1.Coords, ∀ j : Fin 16, condW i j = 1#1 ↔ j.val < nC i := by decide +kernel
theorem offW_eq : ∀ i : grid1.Coords, ∀ j : Fin 16, offW i j = ![128 * (bC i + j.val), 0] := by decide +kernel
theorem bC_add : ∀ i : grid1.Coords, bC i + nC i ≤ 400 := by decide +kernel
theorem bC_add' : ∀ i : grid1.Coords, bC i + 16 ≤ 407 := by decide +kernel

/-- Row `p` of the padded index list. -/
def ixI (p : Fin 52096) : S52096.Idx :=
  fun | 0 => p | ⟨_ + 1, h⟩ => absurd h (Nat.not_lt.2 (Nat.le_add_left _ _))
/-- Row `r`, lane `l` of the table. -/
def ixT (r : Fin 100000) (l : Fin 128) : S100000x128.Idx :=
  fun | 0 => r | 1 => l | ⟨_ + 2, h⟩ => absurd h (Nat.not_lt.2 (Nat.le_add_left _ _))

/-- The gathered rows: row `p` of the result is the table's row that entry `p` of the index list names. -/
def gath (I : S52096.Idx → Elt F .i32) (hI : ∀ x, (I x : BitVec 32).toNat < 100000) (X : S100000x128.Idx → Elt F .f32) : S51200x128.Idx → Elt F .f32 :=
  fun x => X (ixT ⟨_, hI (ixI ⟨(x 0).val, Nat.lt_of_lt_of_le (x 0).isLt (by decide)⟩)⟩ (x 1))

/-- The rows of the result task `i` writes. -/
def tileSet (i : grid1.Coords) : Finset S51200x128.Idx :=
  Finset.univ.filter fun x => bC i ≤ (x 0).val / 128 ∧ (x 0).val / 128 < bC i + nC i

/-! ## What a step reads and writes, element by element -/

variable (I : S52096.Idx → Elt F .i32) (hI : ∀ x, (I x : BitVec 32).toNat < 100000)

/-- The index scratch after the index copy. -/
def lst5 (i : grid1.Coords) : S2048.Idx → Elt F .i32 :=
  fun x => I (ixI ⟨128 * bC i + (x 0).val, by have := (x 0).isLt; have : S2048.size 0 = 2048 := rfl; have := bC_add' i; omega⟩)

/-- The slice of the index list the task copies in. -/
abbrev ixSl (i : grid1.Coords) := idxM.slice (Rect.unit (s := S52096) (k1_off1 i) S2048.size (k1_off1_inb i)) (fun _ => rfl)

theorem off1_eq (i : grid1.Coords) : k1_off1 i 0 = 128 * bC i := by rw [k1_off1_eq]; rfl

theorem copy_emb (i : grid1.Coords) (x : S2048.Idx) (h : 128 * bC i + (x 0).val < 52096) :
    ((ixSl i).view.emb x : S52096.Idx) = ixI ⟨128 * bC i + (x 0).val, h⟩ := by
  funext a
  match a with
  | 0 =>
    refine Fin.ext ?_
    show (k1_off1 i) 0 + 1 * (x 0).val = 128 * bC i + (x 0).val
    have := off1_eq i
    omega

theorem copy_read (i : grid1.Coords) : (ixSl i).view.read (Elt F) I = lst5 I i := by
  funext x
  exact congrArg I (copy_emb i x (by have := (show S2048.Idx from x) 0 |>.isLt; have : S2048.size 0 = 2048 := rfl; have := bC_add' i; omega))

theorem list_read (i : grid1.Coords) (j : Fin 16) (x : S128.Idx) :
    (listM j).view.read (Elt F) (lst5 I i) x = I (ixI ⟨128 * (bC i + j.val) + (x 0).val, by have := (x 0).isLt; have : S128.size 0 = 128 := rfl; have := bC_add' i; omega⟩) := by
  refine congrArg I (congrArg ixI (Fin.ext ?_))
  show 128 * bC i + (128 * j.val + 1 * (x 0).val) = 128 * (bC i + j.val) + (x 0).val
  omega

include hI in
theorem hin (i : grid1.Coords) (j : Fin 16) : ∀ x, ((listM j).view.read (Elt F) (lst5 I i) x : BitVec 32).toNat < S100000x128.size (gathers_S100000x128_S128x128).axis := by
  intro x; rw [list_read]; exact hI _

theorem src_emb (x : S100000x128.Idx) : (srcM.view.emb x : S100000x128.Idx) = x := by
  refine funext fun a : Fin 2 => ?_
  match a with
  | 0 => exact Fin.ext (show 0 + 1 * (x 0).val = (x 0).val by omega)
  | 1 => exact Fin.ext (show 0 + 1 * (x 1).val = (x 1).val by omega)

/-- What the gather of chunk `j` lands. -/
def payl (X : S100000x128.Idx → Elt F .f32) (i : grid1.Coords) (j : Fin 16) : S128x128.Idx → Elt F .f32 :=
  SparseCore.gatherPayload gathers_S100000x128_S128x128 (srcM.view.read (Elt F) X)
    (SparseCore.rows ((listM j).view.read (Elt F) (lst5 I i)) rfl (hin I hI i j))

theorem rowMajor_symm_128 (k : Fin S128.numel) : (S128.rowMajor.symm k 0).val = k.val := by
  have h := Shape.rowMajor_val_one (d := S128.size) (S128.rowMajor.symm k)
  rw [← h]
  exact congrArg Fin.val (Equiv.apply_symm_apply S128.rowMajor k)

/-- Where element `y` of chunk `j` lies in the result. -/
def chunkIx (i : grid1.Coords) (j : Fin 16) (h : condW i j = 1#1) (y : S128x128.Idx) : S51200x128.Idx := (chunkM i j h).view.emb y

theorem chunkIx_zero (i : grid1.Coords) (j : Fin 16) (h : condW i j = 1#1) (y : S128x128.Idx) :
    (chunkIx i j h y 0).val = 128 * (bC i + j.val) + (y 0).val := by
  show (offW i j) 0 + 1 * (y 0).val = _
  have : (offW i j) 0 = 128 * (bC i + j.val) := by rw [offW_eq]; rfl
  omega

theorem chunkIx_one (i : grid1.Coords) (j : Fin 16) (h : condW i j = 1#1) (y : S128x128.Idx) : (chunkIx i j h y 1).val = (y 1).val := by
  show (offW i j) 1 + 1 * (y 1).val = _
  have : (offW i j) 1 = 0 := by rw [offW_eq]; rfl
  omega

theorem payl_eq (X : S100000x128.Idx → Elt F .f32) (i : grid1.Coords) (j : Fin 16) (h : condW i j = 1#1) (y : S128x128.Idx) :
    payl I hI X i j y = gath I hI X (chunkIx i j h y) := by
  have h0 := chunkIx_zero i j h y
  have h1 := chunkIx_one i j h y
  show X (srcM.view.emb _) = X _
  refine congrArg X ((src_emb _).trans ?_)
  refine funext fun a : Fin 2 => ?_
  match a with
  | 0 =>
    refine Fin.ext ?_
    have e := congrArg Fin.val (Shape.Gathers.idx_axis gathers_S100000x128_S128x128 (SparseCore.rows ((listM j).view.read (Elt F) (lst5 I i)) rfl (hin I hI i j)) y)
    refine e.trans ?_
    show ((listM j).view.read (Elt F) (lst5 I i) _ : BitVec 32).toNat = (I _ : BitVec 32).toNat
    rw [list_read]
    refine congrArg (fun p => (I (ixI p) : BitVec 32).toNat) (Fin.ext ?_)
    show 128 * (bC i + j.val) + (S128.rowMajor.symm _ 0).val = (chunkIx i j h y 0).val
    rw [h0, rowMajor_symm_128]; rfl
  | 1 =>
    refine Fin.ext ?_
    exact (Shape.Gathers.idx_of_ne gathers_S100000x128_S128x128 _ y 1 (by decide)).trans h1.symm

theorem mem_tileSet (i : grid1.Coords) (x : S51200x128.Idx) :
    x ∈ tileSet i ↔ bC i ≤ (x 0).val / 128 ∧ (x 0).val / 128 < bC i + nC i := by
  simp [tileSet]

theorem chunk_subset (i : grid1.Coords) (j : Fin 16) (h : condW i j = 1#1) : (chunkM i j h).view.set ⊆ tileSet i := by
  intro x hx
  obtain ⟨y, -, rfl⟩ := Finset.mem_map.mp hx
  have h0 := chunkIx_zero i j h y
  have hy : (y 0).val < 128 := (y 0).isLt
  have hj := (condW_iff i j).mp h
  refine (mem_tileSet i (chunkIx i j h y)).mpr ?_
  omega

/-- Writing chunk `j` over the result: its rows take what is written, the others stay. -/
theorem chunk_write (i : grid1.Coords) (j : Fin 16) (h : condW i j = 1#1) (w : S51200x128.Idx → Elt F .f32) (p : S128x128.Idx → Elt F .f32)
    (Y : S51200x128.Idx → Elt F .f32) (hp : ∀ y, p y = Y (chunkIx i j h y)) (x : S51200x128.Idx) :
    (chunkM i j h).view.write (Elt F) w p Finset.univ x = if (x 0).val / 128 = bC i + j.val then Y x else w x := by
  split
  · rename_i hx
    let y : S128x128.Idx := fun | 0 => ⟨(x 0).val % 128, Nat.mod_lt _ (by decide)⟩ | 1 => x 1 | ⟨_ + 2, h⟩ => absurd h (Nat.not_lt.2 (Nat.le_add_left _ _))
    have hy : chunkIx i j h y = x := by
      refine funext fun a : Fin 2 => ?_
      match a with
      | 0 =>
        refine Fin.ext ((chunkIx_zero i j h y).trans ?_)
        show 128 * (bC i + j.val) + (x 0).val % 128 = (x 0).val
        omega
      | 1 => exact Fin.ext (chunkIx_one i j h y)
    have := View.write_emb_of_mem (Val := Elt F) (v := (chunkM i j h).view) w p (Finset.mem_univ y)
    rw [← hy]
    exact this.trans (hp y)
  · rename_i hx
    refine View.write_of_not_mem (Val := Elt F) (v := (chunkM i j h).view) w p Finset.univ ?_
    intro hm
    obtain ⟨y, -, hy⟩ := Finset.mem_map.mp hm
    have h0 := chunkIx_zero i j h y
    have hy' : chunkIx i j h y = x := hy
    have hl : (y 0).val < 128 := (y 0).isLt
    rw [hy'] at h0
    omega

end Cert.Proof.Sc

end
-- ==== Proof.Steps.lean ====
/-
  One step of a task: starting the gather of a chunk into its ring buffer, and finishing a chunk (waiting for its rows,
  copying them to the result, waiting for that copy). Each is proved once, for a symbolic task and chunk.
-/
module

public import proofs.«01_k».proof.Proof.Base

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid1.Coords) (I : S52096.Idx → Elt F .i32) (hI : ∀ x, (I x : BitVec 32).toNat < 100000)
variable (X : S100000x128.Idx → Elt F .f32) (tq lq : PosShare TreeShare)

/-- Ring buffer `b` free: its contents, the shares of the table and of the index scratch its gathers read, its
    semaphore at zero. -/
def idle (b : Fin 4) : sProp 𝕄 :=
  iprop((∃ g : S4x128x128.Idx → Elt F .f32, (slotM b).view.loc (thr d i) ↦[(slotM b).view.set]{fullShare} g) ∗ ((srcM).view.loc (thr d i) ↦[(srcM).view.set]{tq} X)
    ∗ ((thr d i).loc cc1_scratch0 ↦{lq} lst5 I i) ∗ semVal (thr d i, SemLoc.dma (semM b)) 0)

/-- Ring buffer `b` with the gather of chunk `j` in flight. -/
def busy (b : Fin 4) (j : Fin 16) : sProp 𝕄 :=
  iprop((∃ g : S4x128x128.Idx → Elt F .f32, Transfers.Flight countersEmb (thr d i) (.dma (semM b)) (default : HIx 1) (slotM b).view.dmaCredit
      iprop(((slotM b).view.loc (thr d i) ↦[(slotM b).view.set]{fullShare} ((slotM b).view.write (Elt F) g (payl I hI X i j) Finset.univ))
        ∗ ((srcM).view.loc (thr d i) ↦[(srcM).view.set]{tq} X) ∗ ((listM j).view.loc (thr d i) ↦[(listM j).view.set]{lq} lst5 I i)))
    ∗ ((thr d i).loc cc1_scratch0 ↦[Finset.univ \ (listM j).view.set]{lq} lst5 I i))

theorem slot_rows (b : Fin 4) : ∀ h : S100000x128.Gathers 0 S128x128,
    ∑ j, ((slotM b).slice (S128x128.rowRect h.axis' j) (S128x128.stride_rowRect h.axis' j)).view.dmaCredit = (slotM b).view.dmaCredit := by
  revert b; decide +kernel

/-- The weakest precondition of a program of the task. -/
abbrev wpT {α : Type} (k : Prog (TpuEff nD τ sig (Elt F) Λ₀ (.scVector ((i 0).castLE hcore1) ((i 1).castLE hsub1))) α) (Φ : α → sProp 𝕄) : sProp 𝕄 :=
  wp frame (wpE (defs₀ (F := F)) 𝒱₀ (thr d i) none) Set.univ k Φ

theorem start_step {α : Type} (k : Prog (TpuEff nD τ sig (Elt F) Λ₀ (.scVector ((i 0).castLE hcore1) ((i 1).castLE hsub1))) α) (Φ : α → sProp 𝕄) (j : Fin 16) :
    iprop(idle d i I X tq lq (bOf j) ∗ (busy d i I hI X tq lq (bOf j) j -∗ wpT d i k Φ))
      ⊢ wpT d i (startB i j k) Φ := by
  unfold idle startB
  iintro ⟨⟨⟨%g, Hslot⟩, Hsrc, Hlst, Hsem⟩, Hk⟩
  ihave Hl := (pointsTo_split_subset (q := lq) (f := lst5 I i) (ℓ := (thr d i).loc cc1_scratch0) (S := Finset.univ) (Finset.subset_univ (listM j).view.set)).1 $$ Hlst
  icases Hl with ⟨Hl, Hlr⟩
  iapply (SparseCore.wp_indirectGatherLocal countersEmb 𝒱₀ (thr d i) none (hg := gathers_S100000x128_S128x128) (default : HIx 1) (slotM (bOf j)).view.dmaCredit
      (slot_rows (bOf j) gathers_S100000x128_S128x128) (show 0 < S128x128.numel by decide) (hin I hI i j)) $$ [Hsrc Hslot Hl Hsem]
  · isplitl [Hsrc]; · iexact Hsrc
    isplitl [Hslot]; · iexact Hslot
    isplitl [Hl]; · iexact Hl
    iexact Hsem
  iintro Hfl
  iapply Hk
  unfold busy
  isplitl [Hfl]
  · iexists g; iexact Hfl
  · iexact Hlr

/-- What the result holds on the chunks done: the gathered rows. -/
def outs (dn : List (Fin 16)) : sProp 𝕄 :=
  iprop(∃ w : S51200x128.Idx → Elt F .f32, ⌜∀ j ∈ dn, ∀ x : S51200x128.Idx, (x 0).val / 128 = bC i + j.val → w x = gath I hI X x⌝
    ∗ ((outM).view.loc (thr d i) ↦[tileSet i]{fullShare} w))

theorem fin_step {α : Type} (k : Prog (TpuEff nD τ sig (Elt F) Λ₀ (.scVector ((i 0).castLE hcore1) ((i 1).castLE hsub1))) α) (Φ : α → sProp 𝕄) (j : Fin 16) (h : condW i j = 1#1) (dn : List (Fin 16)) (O : CellTallies nD τ sig (HIx 1)) (W : Waits sig (HIx 1)) :
    iprop(busy d i I hI X tq lq (bOf j) j ∗ outs d i I hI X dn ∗ semVal (thr d i, SemLoc.dma (outSem j)) 0 ∗ owes (thr d i) O W ∗ Transfers.MayWaits (thr d i) (default : HIx 1) O
        ∗ (iprop(idle d i I X tq lq (bOf j) ∗ outs d i I hI X (j :: dn) ∗ semVal (thr d i, SemLoc.dma (outSem j)) 0
            ∗ owes (thr d i) O (insert (SemLoc.dma (outSem j), (default : HIx 1)) (insert (SemLoc.dma (semM (bOf j)), (default : HIx 1)) W)))
            -∗ wpT d i k Φ))
      ⊢ wpT d i (finB i j h k) Φ := by
  unfold busy outs finB
  iintro ⟨⟨⟨%g, Hfl⟩, Hlr⟩, ⟨%w, %hw, Hout⟩, Hsem, HO, #Hmw, Hk⟩
  iapply (Transfers.wp_waitLocalO countersEmb 𝒱₀ (thr d i) none (default : HIx 1) (rfl : (slotM (bOf j)).view.dmaCredit = _)) $$ [Hfl HO]
  · isplitl [Hfl]; · iexact Hfl
    isplitl [HO]; · iexact HO
    iapply (Transfers.MayWaits.elim (SemLoc.dma (semM (bOf j)))) $$ Hmw
  iintro ⟨⟨Hslot, Hsrc, Hl⟩, Hs, HO⟩
  iapply (Transfers.wp_dmaLocal countersEmb 𝒱₀ (thr d i) none (src := slotM (bOf j)) (dst := chunkM i j h) (sm := SemLoc.dma (outSem j)) (default : HIx 1) (chunkM i j h).view.dmaCredit rfl (View.dmaCredit_pos _ (by decide))
      (chunk_subset i j h)) $$ [Hslot Hout Hsem]
  · isplitl [Hslot]; · iexact Hslot
    isplitl [Hout]; · iexact Hout
    iexact Hsem
  iintro Hfl
  iapply (Transfers.wp_waitLocalO countersEmb 𝒱₀ (thr d i) none (default : HIx 1) (rfl : (chunkM i j h).view.dmaCredit = _)) $$ [Hfl HO]
  · isplitl [Hfl]; · iexact Hfl
    isplitl [HO]; · iexact HO
    iapply (Transfers.MayWaits.elim (SemLoc.dma (outSem j))) $$ Hmw
  iintro ⟨⟨Hout, Hslot⟩, Hsem, HO⟩
  iapply Hk
  unfold idle
  ihave Hlst := (pointsTo_split_subset (q := lq) (f := lst5 I i) (ℓ := (thr d i).loc cc1_scratch0) (S := Finset.univ) (Finset.subset_univ (listM j).view.set)).2 $$ [Hl Hlr]
  · isplitl [Hl]; · iexact Hl
    iexact Hlr
  isplitl [Hslot Hsrc Hlst Hs]
  · isplitl [Hslot]; · iexists _; iexact Hslot
    isplitl [Hsrc]; · iexact Hsrc
    isplitl [Hlst]; · iexact Hlst
    iexact Hs
  isplitl [Hout]
  · iexists _
    isplitr
    rotate_left
    · iexact Hout
    · ipureintro
      intro j' hj' x hx
      have hc := chunk_write i j h w (payl I hI X i j) (gath I hI X) (payl_eq I hI X i j h) x
      have e : (chunkM i j h).view.write (Elt F) w ((slotM (bOf j)).view.read (Elt F) ((slotM (bOf j)).view.write (Elt F) g (payl I hI X i j) Finset.univ)) Finset.univ x
          = (chunkM i j h).view.write (Elt F) w (payl I hI X i j) Finset.univ x := by
        exact congrArg (fun p => (chunkM i j h).view.write (Elt F) w p Finset.univ x)
          (View.read_write_univ (Val := Elt F) (v := (slotM (bOf j)).view) g (payl I hI X i j))
      refine (e.trans hc).trans ?_
      split
      · rfl
      · rename_i hne
        rcases List.mem_cons.mp hj' with rfl | hj'
        · exact absurd hx hne
        · exact hw j' hj' x hx
  isplitl [Hsem]; · iexact Hsem
  iexact HO

end Cert.Proof.Sc

end
-- ==== Proof.Run.lean ====
/-
  A task's whole schedule. What holds between two steps says for each ring buffer whether it is free or which chunk's gather
  is in flight into it, and which chunks are done; the schedule keeps it (checked once for each number of chunks), and at its
  end every ring buffer is free and the task's rows of the result are the gathered rows.
-/
module

public import proofs.«01_k».proof.Proof.Steps

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid1.Coords) (I : S52096.Idx → Elt F .i32) (hI : ∀ x, (I x : BitVec 32).toNat < 100000)
variable (X : S100000x128.Idx → Elt F .f32) (tq lq : Fin 4 → PosShare TreeShare)

/-- Ring buffer `b`: free, or the chunk in flight into it. -/
def slotSt (b : Fin 4) : Option (Fin 16) → sProp 𝕄
  | none => idle d i I X (tq b) (lq b) b
  | some j => busy d i I hI X (tq b) (lq b) b j

theorem slotSt_none (b : Fin 4) : slotSt d i I hI X tq lq b none = idle d i I X (tq b) (lq b) b := rfl
theorem slotSt_some (b : Fin 4) (j : Fin 16) : slotSt d i I hI X tq lq b (some j) = busy d i I hI X (tq b) (lq b) b j := rfl

/-- What holds between two steps. -/
def Inv (O : CellTallies nD τ sig (HIx 1)) (W : Waits sig (HIx 1)) (st : Fin 4 → Option (Fin 16)) (dn : List (Fin 16)) : sProp 𝕄 :=
  iprop((bigSep Finset.univ fun b : Fin 4 => slotSt d i I hI X tq lq b (st b)) ∗ outs d i I hI X dn
    ∗ (bigSep Finset.univ fun j : Fin 16 => semVal (thr d i, SemLoc.dma (outSem j)) 0)
    ∗ ∃ W', ⌜∀ p ∈ W', p ∈ W ∨ p.2 = none⌝ ∗ owes (thr d i) O W')

/-- Whether a schedule's steps fit together for a task of `n` chunks: a chunk is started into a free buffer and finished from
    the buffer it was started into, and at the end every buffer is free and every chunk is done. -/
def okR (n : ℕ) : (Fin 4 → Option (Fin 16)) → List (Fin 16) → List (Bool × Fin 16) → Bool
  | st, dn, [] => decide (∀ b, st b = none) && decide (∀ j : Fin 16, j.val < n → j ∈ dn)
  | st, dn, (false, j) :: l => if j.val < n then decide (st (bOf j) = none) && okR n (Function.update st (bOf j) (some j)) dn l else okR n st dn l
  | st, dn, (true, j) :: l => if j.val < n then decide (st (bOf j) = some j) && okR n (Function.update st (bOf j) none) (j :: dn) l else okR n st dn l

theorem okR_sched : ∀ i : grid1.Coords, okR (nC i) (fun _ => none) [] (sched1 ++ (sched2 ++ (sched3 ++ sched4))) = true := by decide +kernel

theorem slots_at (st : Fin 4 → Option (Fin 16)) (b : Fin 4) :
    (bigSep Finset.univ fun b : Fin 4 => slotSt d i I hI X tq lq b (st b))
      = iprop(slotSt d i I hI X tq lq b (st b) ∗ bigSep (Finset.univ.erase b) fun b => slotSt d i I hI X tq lq b (st b)) :=
  SparseCore.bigSep_erase' (Finset.mem_univ b)

theorem slots_update (st : Fin 4 → Option (Fin 16)) (b : Fin 4) (o : Option (Fin 16)) :
    (bigSep Finset.univ fun b' : Fin 4 => slotSt d i I hI X tq lq b' (Function.update st b o b'))
      = iprop(slotSt d i I hI X tq lq b o ∗ bigSep (Finset.univ.erase b) fun b => slotSt d i I hI X tq lq b (st b)) := by
  rw [slots_at, Function.update_self]
  congr 1
  exact bigSep_congr fun b' hb' => by rw [Function.update_of_ne (Finset.mem_erase.mp hb').1]

theorem run_start {α : Type} (k : Prog (TpuEff nD τ sig (Elt F) Λ₀ (.scVector ((i 0).castLE hcore1) ((i 1).castLE hsub1))) α) (Φ : α → sProp 𝕄) (O : CellTallies nD τ sig (HIx 1)) (W : Waits sig (HIx 1)) (st : Fin 4 → Option (Fin 16)) (dn : List (Fin 16)) (j : Fin 16) (hst : st (bOf j) = none) :
    iprop(Inv d i I hI X tq lq O W st dn ∗ (Inv d i I hI X tq lq O W (Function.update st (bOf j) (some j)) dn -∗ wpT d i k Φ))
      ⊢ wpT d i (startB i j k) Φ := by
  unfold Inv
  rw [slots_at d i I hI X tq lq st (bOf j), hst, slots_update, slotSt_none, slotSt_some]
  iintro ⟨⟨⟨Hs, Hr⟩, Hrest⟩, Hk⟩
  iapply (start_step d i I hI X (tq (bOf j)) (lq (bOf j)) k Φ j)
  isplitl [Hs]; · iexact Hs
  iintro Hb
  iapply Hk
  isplitl [Hb Hr]
  · isplitl [Hb]; · iexact Hb
    iexact Hr
  iexact Hrest

theorem run_fin {α : Type} (k : Prog (TpuEff nD τ sig (Elt F) Λ₀ (.scVector ((i 0).castLE hcore1) ((i 1).castLE hsub1))) α) (Φ : α → sProp 𝕄) (O : CellTallies nD τ sig (HIx 1)) (W : Waits sig (HIx 1)) (st : Fin 4 → Option (Fin 16)) (dn : List (Fin 16)) (j : Fin 16) (h : condW i j = 1#1) (hst : st (bOf j) = some j) :
    iprop(Transfers.MayWaits (thr d i) (default : HIx 1) O ∗ Inv d i I hI X tq lq O W st dn
        ∗ (Inv d i I hI X tq lq O W (Function.update st (bOf j) none) (j :: dn) -∗ wpT d i k Φ))
      ⊢ wpT d i (finB i j h k) Φ := by
  unfold Inv
  rw [slots_at d i I hI X tq lq st (bOf j), hst, slots_update, slotSt_none, slotSt_some,
    SparseCore.bigSep_erase' (Finset.mem_univ j) (Φ := fun j : Fin 16 => semVal (thr d i, SemLoc.dma (outSem j)) 0)]
  iintro ⟨#Hmw, ⟨⟨Hs, Hr⟩, Hout, ⟨Hsem, Hsems⟩, %W', %hW', HO⟩, Hk⟩
  iapply (fin_step d i I hI X (tq (bOf j)) (lq (bOf j)) k Φ j h dn O W')
  isplitl [Hs]; · iexact Hs
  isplitl [Hout]; · iexact Hout
  isplitl [Hsem]; · iexact Hsem
  isplitl [HO]; · iexact HO
  isplitr; · iexact Hmw
  iintro ⟨Hb, Hout, Hsem, HO⟩
  iapply Hk
  isplitl [Hb Hr]
  · isplitl [Hb]; · iexact Hb
    iexact Hr
  isplitl [Hout]; · iexact Hout
  isplitl [Hsem Hsems]
  · isplitl [Hsem]; · iexact Hsem
    iexact Hsems
  iexists _
  isplitr
  rotate_left
  · iexact HO
  · ipureintro
    intro p hp
    rcases Finset.mem_insert.mp hp with rfl | hp
    · exact Or.inr rfl
    rcases Finset.mem_insert.mp hp with rfl | hp
    · exact Or.inr rfl
    exact hW' p hp

theorem run_all {α : Type} (k : Prog (TpuEff nD τ sig (Elt F) Λ₀ (.scVector ((i 0).castLE hcore1) ((i 1).castLE hsub1))) α) (Φ : α → sProp 𝕄) (O : CellTallies nD τ sig (HIx 1)) (W : Waits sig (HIx 1)) :
    ∀ (l : List (Bool × Fin 16)) (st : Fin 4 → Option (Fin 16)) (dn : List (Fin 16)), okR (nC i) st dn l = true →
    iprop(Transfers.MayWaits (thr d i) (default : HIx 1) O ∗ Inv d i I hI X tq lq O W st dn
        ∗ ((∃ dn, ⌜∀ j : Fin 16, j.val < nC i → j ∈ dn⌝ ∗ Inv d i I hI X tq lq O W (fun _ => none) dn) -∗ wpT d i k Φ))
      ⊢ wpT d i (runP i k l) Φ
  | [], st, dn, h => by
    obtain ⟨h1, h2⟩ := Bool.and_eq_true_iff.mp h
    obtain rfl : st = fun _ => none := funext (of_decide_eq_true h1)
    show _ ⊢ wpT d i k Φ
    iintro ⟨-, Hi, Hk⟩
    iapply Hk
    iexists dn
    isplitr
    · ipureintro; exact of_decide_eq_true h2
    iexact Hi
  | (false, j) :: l, st, dn, h => by
    show _ ⊢ wpT d i (startP i j (runP i k l)) Φ
    unfold startP
    by_cases hj : j.val < nC i
    · rw [dif_pos ((condW_iff i j).mpr hj)]
      unfold okR at h
      rw [if_pos hj] at h
      obtain ⟨h1, h2⟩ := Bool.and_eq_true_iff.mp h
      iintro ⟨#Hmw, Hi, Hk⟩
      iapply (run_start d i I hI X tq lq (runP i k l) Φ O W st dn j (of_decide_eq_true h1))
      isplitl [Hi]; · iexact Hi
      iintro Hi
      iapply (run_all k Φ O W l _ dn h2)
      isplitr; · iexact Hmw
      isplitl [Hi]; · iexact Hi
      iexact Hk
    · rw [dif_neg (fun hc => hj ((condW_iff i j).mp hc))]
      unfold okR at h
      rw [if_neg hj] at h
      exact run_all k Φ O W l st dn h
  | (true, j) :: l, st, dn, h => by
    show _ ⊢ wpT d i (finP i j (runP i k l)) Φ
    unfold finP
    by_cases hj : j.val < nC i
    · rw [dif_pos ((condW_iff i j).mpr hj)]
      unfold okR at h
      rw [if_pos hj] at h
      obtain ⟨h1, h2⟩ := Bool.and_eq_true_iff.mp h
      iintro ⟨#Hmw, Hi, Hk⟩
      iapply (run_fin d i I hI X tq lq (runP i k l) Φ O W st dn j _ (of_decide_eq_true h1))
      isplitr; · iexact Hmw
      isplitl [Hi]; · iexact Hi
      iintro Hi
      iapply (run_all k Φ O W l _ _ h2)
      isplitr; · iexact Hmw
      isplitl [Hi]; · iexact Hi
      iexact Hk
    · rw [dif_neg (fun hc => hj ((condW_iff i j).mp hc))]
      unfold okR at h
      rw [if_neg hj] at h
      exact run_all k Φ O W l st dn h

/-- Every chunk done, the task's rows of the result are the gathered rows. -/
theorem outs_full (dn : List (Fin 16)) (h : ∀ j : Fin 16, j.val < nC i → j ∈ dn) :
    outs d i I hI X dn ⊢ ((outM).view.loc (thr d i) ↦[tileSet i]{fullShare} gath I hI X : sProp 𝕄) := by
  unfold outs
  iintro ⟨%w, %hw, H⟩
  ihave H' := (Entails.of_eq (pointsTo_congr (ℓ := (outM).view.loc (thr d i)) (I := tileSet i) (q := fullShare) (f := w) (g := gath I hI X) (fun x hx => by
    obtain ⟨h1, h2⟩ := (mem_tileSet i x).mp hx
    have hn : nC i ≤ 16 := by unfold nC; split <;> omega
    exact hw ⟨(x 0).val / 128 - bC i, by omega⟩ (h _ (show _ < nC i by simp only; omega)) x (by simp only; omega)))) $$ H
  iexact H'

end Cert.Proof.Sc

end
-- ==== Proof.Tile.lean ====
/-
  A task's body: the index list's slice copied in, its own buffers and semaphores dealt out to the schedule, the schedule,
  and everything handed back with the task's rows of the result holding the gathered rows.
-/
module

public import proofs.«01_k».proof.Proof.Run

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's own buffers and semaphores -/

section Own
variable (d : Dev nD) (i : grid1.Coords)

/-- Ring buffer `b`'s elements of the ring; the table's elements as a gather's source names them. -/
def slotSet (b : Fin 4) : Finset S4x128x128.Idx := (slotM b).view.set
def srcSet : Finset S100000x128.Idx := (srcM).view.set

theorem slotSet_eq (b : Fin 4) : slotSet b = (Rect.unit (s := S4x128x128) ![b.val, 0, 0] S1x128x128.size (inb_slot b)).set :=
  (View.set_reshape _ _).trans (View.set_slice_whole _ _)

theorem mem_slot (b : Fin 4) (x : S4x128x128.Idx) : x ∈ slotSet b ↔ x 0 = b := by
  rw [slotSet_eq, Rect.mem_set_unit]
  constructor
  · intro h
    have h0 := h 0
    have h1 : b.val ≤ (x 0).val ∧ (x 0).val < b.val + 1 := h0
    exact Fin.ext (by omega)
  · rintro rfl a
    match a with
    | 0 => exact ⟨Nat.le_refl _, Nat.lt_succ_self _⟩
    | 1 => exact ⟨Nat.zero_le _, (show (x 1).val < 0 + 128 from (x 1).isLt)⟩
    | 2 => exact ⟨Nat.zero_le _, (show (x 2).val < 0 + 128 from (x 2).isLt)⟩

theorem slot_disjoint (b b' : Fin 4) (h : b ≠ b') : Disjoint (slotSet b) (slotSet b') :=
  Finset.disjoint_left.mpr fun x hx hx' => h (((mem_slot b x).mp hx).symm.trans ((mem_slot b' x).mp hx'))

theorem slot_cover : (Finset.univ.biUnion slotSet) = Finset.univ := by
  ext x
  simp only [Finset.mem_biUnion, Finset.mem_univ, true_and, iff_true]
  exact ⟨x 0, (mem_slot (x 0) x).mpr rfl⟩

theorem src_set : srcSet = Finset.univ := by
  ext x
  simp only [Finset.mem_univ, iff_true]
  exact Finset.mem_map.mpr ⟨x, Finset.mem_univ _, src_emb x⟩

/-- A ring buffer, the table's share, the index scratch's share, as the schedule holds them. -/
def slotPts (b : Fin 4) (g : S4x128x128.Idx → Elt F .f32) : sProp 𝕄 := iprop((thr d i).loc cc1_scratch1 ↦[slotSet b]{fullShare} g)
def tabPts (q : PosShare TreeShare) (X : S100000x128.Idx → Elt F .f32) : sProp 𝕄 := iprop(tLoc d ↦[srcSet]{q} X)
def lstPts (q : PosShare TreeShare) (l : S2048.Idx → Elt F .i32) : sProp 𝕄 := iprop((thr d i).loc cc1_scratch0 ↦{q} l)
def semPts (b : Fin 4) : sProp 𝕄 := semVal (thr d i, SemLoc.dma (semM b)) 0

theorem idle_eq (I : S52096.Idx → Elt F .i32) (X : S100000x128.Idx → Elt F .f32) (tq lq : PosShare TreeShare) (b : Fin 4) :
    idle d i I X tq lq b = iprop((∃ g, slotPts d i b g) ∗ tabPts d tq X ∗ lstPts d i lq (lst5 I i) ∗ semPts d i b) := rfl

/-- The tile's ring of row buffers is its four slots. -/
theorem ring_split (f : S4x128x128.Idx → Elt F .f32) :
    ((thr d i).loc cc1_scratch1 ↦{fullShare} f : sProp 𝕄) = bigSep Finset.univ fun b : Fin 4 => slotPts d i b f := by
  have h := pointsTo_biUnion (Ix := HIx 1) (Name := ℕ) (U := UU) (Lvl := ℕ) (Val := Elt F) (ℓ := (thr d i).loc cc1_scratch1) (q := fullShare) (f := f) Finset.univ slotSet fun b _ b' _ h => slot_disjoint b b' h
  rw [slot_cover] at h
  exact h

theorem ring_join : (bigSep Finset.univ fun b : Fin 4 => iprop(∃ g, slotPts d i b g)) ⊢ (iprop(∃ f, (thr d i).loc cc1_scratch1 ↦{fullShare} f) : sProp 𝕄) := by
  haveI : Nonempty (S4x128x128.Idx → Elt F .f32) := ⟨fun _ => (FloatOps.ofBits .f32 0 : F .f32)⟩
  iintro H
  ihave H' := (bigSep_exists_pi Finset.univ (fun (b : Fin 4) (g : S4x128x128.Idx → Elt F .f32) => slotPts d i b g)) $$ H
  icases H' with ⟨%gs, H⟩
  unfold slotPts
  ihave H' := (pointsTo_biUnion_join (ℓ := (thr d i).loc cc1_scratch1) (q := fullShare) Finset.univ slotSet gs (gs 0)
    fun b _ b' _ h => slot_disjoint b b' h) $$ H
  icases H' with ⟨%g, -, H⟩
  rw [slot_cover]
  iexists g
  iexact H

theorem ownBufs_V :
    (ownBufs (thr d i) : sProp 𝕄)
      = iprop((∃ f, (thr d i).loc cc1_scratch0 ↦{fullShare} f) ∗ (∃ f, (thr d i).loc cc1_scratch1 ↦{fullShare} f)
          ∗ bigSep (((ownRefs (τ := τ) (thr d i).2).erase ((thr d i).2.devRef cc1_scratch0)).erase ((thr d i).2.devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d i).2) (b := (thr d i).2.devRef cc1_scratch1) rfl⟩)]

theorem semM_scoped : ∀ b, (SemLoc.dma (semM b) : SemLoc sig).isScoped .scVector = true := by decide +kernel
theorem outSem_scoped : ∀ j, (SemLoc.dma (outSem j) : SemLoc sig).isScoped .scVector = true := by decide +kernel
theorem semM_inj : ∀ b b', (SemLoc.dma (semM b) : SemLoc sig) = SemLoc.dma (semM b') → b = b' := by decide +kernel
theorem outSem_inj : ∀ j j', (SemLoc.dma (outSem j) : SemLoc sig) = SemLoc.dma (outSem j') → j = j' := by decide +kernel
theorem semM_ne : ∀ b j, (SemLoc.dma (semM b) : SemLoc sig) ≠ SemLoc.dma (outSem j) := by decide +kernel
theorem copy_ne_semM : ∀ b, (SemLoc.dma (semM b) : SemLoc sig) ≠ SemLoc.dma cc1_scoped0.sem := by decide +kernel
theorem copy_ne_out : ∀ j, (SemLoc.dma (outSem j) : SemLoc sig) ≠ SemLoc.dma cc1_scoped0.sem := by decide +kernel

/-- The ring buffers' semaphores; the write-outs' semaphores; the tile's others. -/
def ringCells : Finset (GSem nD τ sig) := Finset.univ.image fun b : Fin 4 => (thr d i, SemLoc.dma (semM b))
def outCells : Finset (GSem nD τ sig) := Finset.univ.image fun j : Fin 16 => (thr d i, SemLoc.dma (outSem j))
def restCells : Finset (GSem nD τ sig) := ((ownCells (thr d i) \ ringCells d i) \ outCells d i).erase (thr d i, SemLoc.dma cc1_scoped0.sem)

theorem ownSems0_V :
    (ownSems0 (thr d i) : sProp 𝕄)
      = iprop((bigSep Finset.univ fun b : Fin 4 => semPts d i b)
          ∗ (bigSep Finset.univ fun j : Fin 16 => semVal (thr d i, SemLoc.dma (outSem j)) 0)
          ∗ semVal (thr d i, SemLoc.dma cc1_scoped0.sem) 0 ∗ bigSep (restCells d i) fun g => semVal g 0) := by
  have hA : ringCells d i ⊆ ownCells (thr d i) := by
    intro g hg
    obtain ⟨b, -, rfl⟩ := Finset.mem_image.mp hg
    exact mem_ownCells.mpr ⟨rfl, semM_scoped b⟩
  have hB : outCells d i ⊆ ownCells (thr d i) \ ringCells d i := by
    intro g hg
    obtain ⟨j, -, rfl⟩ := Finset.mem_image.mp hg
    refine Finset.mem_sdiff.mpr ⟨mem_ownCells.mpr ⟨rfl, outSem_scoped j⟩, fun h => ?_⟩
    obtain ⟨b, -, hb⟩ := Finset.mem_image.mp h
    exact semM_ne b j (congrArg Prod.snd hb)
  have hC : ((thr d i, SemLoc.dma cc1_scoped0.sem) : GSem nD τ sig) ∈ (ownCells (thr d i) \ ringCells d i) \ outCells d i := by
    refine Finset.mem_sdiff.mpr ⟨Finset.mem_sdiff.mpr ⟨mem_ownCells.mpr ⟨rfl, by show (SemLoc.dma cc1_scoped0.sem : SemLoc sig).isScoped .scVector = true; decide⟩, fun h => ?_⟩, fun h => ?_⟩
    · obtain ⟨b, -, hb⟩ := Finset.mem_image.mp h
      exact copy_ne_semM b (congrArg Prod.snd hb)
    · obtain ⟨j, -, hj⟩ := Finset.mem_image.mp h
      exact copy_ne_out j (congrArg Prod.snd hj)
  unfold SparseCore.Cfg.ownSems0
  rw [SparseCore.bigSep_sdiff_split' hA, SparseCore.bigSep_sdiff_split' hB, SparseCore.bigSep_erase' hC]
  unfold ringCells outCells restCells
  rw [SparseCore.bigSep_image_of_injOn (fun b _ b' _ h => semM_inj b b' (congrArg Prod.snd h)),
    SparseCore.bigSep_image_of_injOn (fun j _ j' _ h => outSem_inj j j' (congrArg Prod.snd h))]
  rfl

end Own

/-! ## The body -/

variable (I : S52096.Idx → Elt F .i32) (hI : ∀ x, (I x : BitVec 32).toNat < 100000) (G : (S100000x128.Idx → Elt F .f32) → Prop)

/-- What a task is handed: read shares of the table and of the index list, its rows of the result. -/
def goRes (d : Dev nD) (i : grid1.Coords) (q : PosShare TreeShare) (m6 : S51200x128.Idx → Elt F .f32) : sProp 𝕄 :=
  iprop(∃ X : S100000x128.Idx → Elt F .f32, ⌜G X⌝ ∗ (tLoc d ↦{q} X) ∗ (iLoc d ↦{q} I) ∗ (oLoc d ↦[tileSet i]{fullShare} m6))
/-- What it hands back: its rows of the result, gathered from a table with the property. -/
def tdRes (d : Dev nD) (i : grid1.Coords) : sProp 𝕄 :=
  iprop(∃ X : S100000x128.Idx → Elt F .f32, ⌜G X⌝ ∗ (oLoc d ↦[tileSet i]{fullShare} gath I hI X))

/-- A share in four pieces. -/
abbrev pc (q : PosShare TreeShare) (b : Fin 4) : PosShare TreeShare := pieceOf q 4 (by decide) b

theorem slots_intro (d : Dev nD) (i : grid1.Coords) (X : S100000x128.Idx → Elt F .f32) (q : PosShare TreeShare) (g : S4x128x128.Idx → Elt F .f32) :
    iprop((bigSep Finset.univ fun b : Fin 4 => slotPts d i b g) ∗ (bigSep Finset.univ fun b : Fin 4 => tabPts d (pc q b) X)
        ∗ (bigSep Finset.univ fun b : Fin 4 => lstPts d i (pc fullShare b) (lst5 I i)) ∗ (bigSep Finset.univ fun b : Fin 4 => semPts d i b))
      ⊢ (bigSep Finset.univ fun b : Fin 4 => slotSt d i I hI X (pc q) (pc fullShare) b none : sProp 𝕄) := by
  rw [← bigSep_sep', ← bigSep_sep', ← bigSep_sep']
  refine bigSep_mono fun b _ => ?_
  rw [slotSt_none, idle_eq]
  refine (show iprop(slotPts d i b g ∗ tabPts d (pc q b) X ∗ lstPts d i (pc fullShare b) (lst5 I i) ∗ semPts d i b)
    ⊢ iprop((∃ g, slotPts d i b g) ∗ tabPts d (pc q b) X ∗ lstPts d i (pc fullShare b) (lst5 I i) ∗ semPts d i b) from ?_)
  iintro ⟨H1, H2, H3, H4⟩
  isplitl [H1]; · iexists g; iexact H1
  isplitl [H2]; · iexact H2
  isplitl [H3]; · iexact H3
  iexact H4

theorem slots_elim (d : Dev nD) (i : grid1.Coords) (X : S100000x128.Idx → Elt F .f32) (q : PosShare TreeShare) :
    (bigSep Finset.univ fun b : Fin 4 => slotSt d i I hI X (pc q) (pc fullShare) b none : sProp 𝕄)
      ⊢ iprop((bigSep Finset.univ fun b : Fin 4 => iprop(∃ g, slotPts d i b g))
        ∗ (bigSep Finset.univ fun b : Fin 4 => lstPts d i (pc fullShare b) (lst5 I i)) ∗ (bigSep Finset.univ fun b : Fin 4 => semPts d i b)) := by
  rw [← bigSep_sep', ← bigSep_sep']
  refine bigSep_mono fun b _ => ?_
  rw [slotSt_none, idle_eq]
  refine (show iprop((∃ g, slotPts d i b g) ∗ tabPts d (pc q b) X ∗ lstPts d i (pc fullShare b) (lst5 I i) ∗ semPts d i b)
    ⊢ iprop((∃ g, slotPts d i b g) ∗ lstPts d i (pc fullShare b) (lst5 I i) ∗ semPts d i b) from ?_)
  iintro ⟨H1, -, H3, H4⟩
  isplitl [H1]; · iexact H1
  isplitl [H3]; · iexact H3
  iexact H4

theorem lst_split (d : Dev nD) (i : grid1.Coords) (l : S2048.Idx → Elt F .i32) :
    ((thr d i).loc cc1_scratch0 ↦{fullShare} l : sProp 𝕄) = bigSep Finset.univ fun b : Fin 4 => lstPts d i (pc fullShare b) l :=
  pointsTo_piecesOf (Val := Elt F) (ℓ := (thr d i).loc cc1_scratch0) Finset.univ l (o := 4) (by decide) fullShare

theorem tab_split (d : Dev nD) (q : PosShare TreeShare) (X : S100000x128.Idx → Elt F .f32) :
    (tLoc d ↦{q} X : sProp 𝕄) = bigSep Finset.univ fun b : Fin 4 => tabPts d (pc q b) X := by
  unfold tabPts
  rw [src_set]
  exact pointsTo_piecesOf (Val := Elt F) (ℓ := tLoc d) Finset.univ X (o := 4) (by decide) q

/-- The index copy: its slice of the list into the index scratch. -/
theorem copy_step (d : Dev nD) (i : grid1.Coords) (q : PosShare TreeShare) (O : CellTallies nD τ sig (HIx 1)) (W : Waits sig (HIx 1)) (fl : S2048.Idx → Elt F .i32)
    {α : Type} (k : Prog (TpuEff nD τ sig (Elt F) Λ₀ (.scVector ((i 0).castLE hcore1) ((i 1).castLE hsub1))) α) (Φ : α → sProp 𝕄) :
    iprop((iLoc d ↦{q} I) ∗ ((thr d i).loc cc1_scratch0 ↦{fullShare} fl) ∗ semVal (thr d i, SemLoc.dma cc1_scoped0.sem) 0 ∗ owes (thr d i) O W
        ∗ Transfers.MayWaits (thr d i) (default : HIx 1) O
        ∗ (iprop((bigSep Finset.univ fun b : Fin 4 => lstPts d i (pc fullShare b) (lst5 I i)) ∗ semVal (thr d i, SemLoc.dma cc1_scoped0.sem) 0
            ∗ owes (thr d i) O (insert (SemLoc.dma cc1_scoped0.sem, (default : HIx 1)) W)) -∗ wpT d i k Φ))
      ⊢ wpT d i (copyP i k) Φ := by
  unfold copyP
  iintro ⟨Hi, Hlst, Hcp, HO, #Hmw, Hk⟩
  ihave Hi' := (pointsTo_split_subset (q := q) (f := I) (ℓ := iLoc d) (S := Finset.univ) (Finset.subset_univ (ixSl i).view.set)).1 $$ Hi
  icases Hi' with ⟨Hi, -⟩
  iapply (Transfers.wp_dmaLocal countersEmb 𝒱₀ (thr d i) none (src := ixSl i) (dst := lstM) (sm := SemLoc.dma cc1_scoped0.sem) (Sd := Finset.univ) (default : HIx 1) (lstM).view.dmaCredit rfl
      (View.dmaCredit_pos _ (by decide)) (Finset.subset_univ _)) $$ [Hi Hlst Hcp]
  · isplitl [Hi]; · iexact Hi
    isplitl [Hlst]; · iexact Hlst
    iexact Hcp
  iintro Hfl
  iapply (Transfers.wp_waitLocalO countersEmb 𝒱₀ (thr d i) none (default : HIx 1) (rfl : (lstM).view.dmaCredit = _)) $$ [Hfl HO]
  · isplitl [Hfl]; · iexact Hfl
    isplitl [HO]; · iexact HO
    iapply (Transfers.MayWaits.elim (SemLoc.dma cc1_scoped0.sem)) $$ Hmw
  iintro ⟨⟨Hlst, -⟩, Hcp, HO⟩
  iapply Hk
  isplitl [Hlst]
  · rw [← lst_split]
    have hl : (lstM).view.write (Elt F) fl ((ixSl i).view.read (Elt F) I) Finset.univ = lst5 I i :=
      (View.write_whole_univ _ _ _).trans (copy_read I i)
    rw [← hl]
    iexact Hlst
  isplitl [Hcp]; · iexact Hcp
  iexact HO

theorem inv_intro (d : Dev nD) (i : grid1.Coords) (X : S100000x128.Idx → Elt F .f32) (q : PosShare TreeShare) (O : CellTallies nD τ sig (HIx 1)) (W : Waits sig (HIx 1))
    (fr : S4x128x128.Idx → Elt F .f32) (m6 : S51200x128.Idx → Elt F .f32) :
    iprop((tLoc d ↦{q} X) ∗ (oLoc d ↦[tileSet i]{fullShare} m6) ∗ ((thr d i).loc cc1_scratch1 ↦{fullShare} fr)
        ∗ (bigSep Finset.univ fun b : Fin 4 => lstPts d i (pc fullShare b) (lst5 I i)) ∗ (bigSep Finset.univ fun b : Fin 4 => semPts d i b)
        ∗ (bigSep Finset.univ fun j : Fin 16 => semVal (thr d i, SemLoc.dma (outSem j)) 0)
        ∗ owes (thr d i) O (insert (SemLoc.dma cc1_scoped0.sem, (default : HIx 1)) W))
      ⊢ Inv d i I hI X (pc q) (pc fullShare) O W (fun _ => none) [] := by
  rw [tab_split, ring_split]
  unfold Inv outs
  iintro ⟨Ht, Ho, Hr, Hl, Hring, Houts, HO⟩
  isplitl [Ht Hr Hl Hring]
  · iapply (slots_intro I hI d i X q fr)
    isplitl [Hr]; · iexact Hr
    isplitl [Ht]; · iexact Ht
    isplitl [Hl]; · iexact Hl
    iexact Hring
  isplitl [Ho]
  · iexists m6
    isplitr; · ipureintro; intro j hj; exact absurd hj List.not_mem_nil
    iexact Ho
  isplitl [Houts]; · iexact Houts
  iexists _
  isplitr
  rotate_left
  · iexact HO
  · ipureintro
    intro p hp
    rcases Finset.mem_insert.mp hp with rfl | hp
    · exact Or.inr rfl
    · exact Or.inl hp

theorem inv_elim (d : Dev nD) (i : grid1.Coords) (X : S100000x128.Idx → Elt F .f32) (q : PosShare TreeShare) (O : CellTallies nD τ sig (HIx 1)) (W : Waits sig (HIx 1)) (dn : List (Fin 16))
    (h : ∀ j : Fin 16, j.val < nC i → j ∈ dn) :
    Inv d i I hI X (pc q) (pc fullShare) O W (fun _ => none) dn
      ⊢ iprop((oLoc d ↦[tileSet i]{fullShare} gath I hI X) ∗ (∃ f, (thr d i).loc cc1_scratch1 ↦{fullShare} f) ∗ (∃ f, (thr d i).loc cc1_scratch0 ↦{fullShare} f)
        ∗ (bigSep Finset.univ fun b : Fin 4 => semPts d i b)
        ∗ (bigSep Finset.univ fun j : Fin 16 => semVal (thr d i, SemLoc.dma (outSem j)) 0)
        ∗ ∃ W', ⌜∀ p ∈ W', p ∈ W ∨ p.2 = none⌝ ∗ owes (thr d i) O W') := by
  unfold Inv
  iintro ⟨Hs, Ho, Houts, HO⟩
  ihave Hs' := (slots_elim I hI d i X q) $$ Hs
  icases Hs' with ⟨Hr, Hl, Hring⟩
  ihave Ho' := (outs_full d i I hI X dn h) $$ Ho
  ihave Hrng := (ring_join d i) $$ Hr
  ihave Hlst := (Entails.of_eq (lst_split d i (lst5 I i)).symm) $$ Hl
  isplitl [Ho']; · iexact Ho'
  isplitl [Hrng]; · iexact Hrng
  isplitl [Hlst]; · iexists _; iexact Hlst
  isplitl [Hring]; · iexact Hring
  isplitl [Houts]; · iexact Houts
  iexact HO

theorem wpT_pure (d : Dev nD) (i : grid1.Coords) (Φ : PUnit → sProp 𝕄) : Φ ⟨⟩ ⊢ wpT d i (pure ⟨⟩) Φ := by
  unfold wpT
  rw [wp_pure]
  iintro H
  imodintro
  iexact H

theorem tile_body (d : Dev nD) (i : grid1.Coords) (q : PosShare TreeShare) (m6 : S51200x128.Idx → Elt F .f32)
    (O : CellTallies nD τ sig (HIx 1)) (W : Waits sig (HIx 1)) (hO : ∀ g, O g none = 0) :
    iprop(levAts (K (F := F)).L (K (F := F)).lev ∗ emp ∗ goRes I G d i q m6 ∗ scopedBufs (thr d i) ∗ scopedSems0 (thr d i) ∗ owes (thr d i) O W)
      ⊢ wpT d i (bodyP (F := F) i) fun _ => iprop(tdRes I hI G d i ∗ scopedBufs (thr d i) ∗ scopedSems0 (thr d i)
            ∗ ∃ W', ⌜∀ p ∈ W', p ∈ W ∨ p.2 = none⌝ ∗ owes (thr d i) O W') := by
  rw [bodyP_eq, (K (F := F)).scopedBufs_V facts d (cV i) (jV i), SparseCore.Cfg.scopedSems0_V (Val := Elt F) d (cV i) (jV i), ownSems0_V, ownBufs_V]
  unfold goRes
  iintro ⟨#Hlv, -, ⟨%X, %hX, Ht, Hi, Ho⟩, ⟨⟨%fl, Hlst⟩, ⟨%fr, Hrng⟩, Hbufs⟩, ⟨Hring, Houts, Hcp, Hsems⟩, HO⟩
  ihave #Hmw := (show levAts (K (F := F)).L (K (F := F)).lev ⊢ Transfers.MayWaits (thr d i) (default : HIx 1) O from
    (K (F := F)).mayWaits_none (thr := thr d i) hO) $$ Hlv
  iapply (copy_step I d i q O W fl)
  isplitl [Hi]; · iexact Hi
  isplitl [Hlst]; · iexact Hlst
  isplitl [Hcp]; · iexact Hcp
  isplitl [HO]; · iexact HO
  isplitr; · iexact Hmw
  iintro ⟨Hl, Hcp, HO⟩
  iapply (run_all d i I hI X (pc q) (pc fullShare) (pure ⟨⟩) _ O W _ (fun _ => none) [] (okR_sched i))
  isplitr; · iexact Hmw
  isplitl [Ht Ho Hrng Hl Hring Houts HO]
  · iapply (inv_intro I hI d i X q O W fr m6)
    isplitl [Ht]; · iexact Ht
    isplitl [Ho]; · iexact Ho
    isplitl [Hrng]; · iexact Hrng
    isplitl [Hl]; · iexact Hl
    isplitl [Hring]; · iexact Hring
    isplitl [Houts]; · iexact Houts
    iexact HO
  iintro ⟨%dn, %hdn, Hinv⟩
  ihave Hinv := (inv_elim I hI d i X q O W dn hdn) $$ Hinv
  icases Hinv with ⟨Ho, Hrng, Hlst, Hring, Houts, HO⟩
  iapply wpT_pure
  unfold tdRes
  isplitl [Ho]
  · iexists X
    isplitr; · ipureintro; exact hX
    iexact Ho
  isplitl [Hlst Hrng Hbufs]
  · isplitl [Hlst]; · iexact Hlst
    isplitl [Hrng]; · iexact Hrng
    iexact Hbufs
  isplitl [Hring Houts Hcp Hsems]
  · isplitl [Hring]; · iexact Hring
    isplitl [Houts]; · iexact Houts
    isplitl [Hcp]; · iexact Hcp
    iexact Hsems
  iexact HO

end Cert.Proof.Sc

end
-- ==== Proof.Split.lean ====
/-
  What the SparseCore call's handshakes carry: each SparseCore, and each of its tiles, a read share of the table and of the
  index list and its rows of the result; back come the rows, gathered from a table with the property the call was started on.
-/
module

public import proofs.«01_k».proof.Proof.Tile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Iv : Dev nD → S52096.Idx → Elt F .i32) (hI : ∀ d x, (Iv d x : BitVec 32).toNat < 100000)
variable (G : Dev nD → (S100000x128.Idx → Elt F .f32) → Prop) (m6 : Dev nD → S51200x128.Idx → Elt F .f32)

def coordsV (c : Fin (grid1.bound 0)) (s : Fin (grid1.bound 1)) : grid1.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- The grid point of task `s` on SparseCore `c`. -/
abbrev co (c : Fin 2) (s : Fin 16) : grid1.Coords := coordsV ⟨c.val, c.isLt⟩ ⟨s.val, s.isLt⟩

/-- The read share of a SparseCore, and of one of its tiles. -/
def scq (c : Fin 2) : PosShare TreeShare := pieceOf fullShare 2 (by decide) c
def tlq (c : Fin 2) (s : Fin 16) : PosShare TreeShare := pieceOf (scq c) 16 (by decide) s

/-- A family over the call's tasks, or SparseCores, by their numbers. -/
theorem bigSep_tasks (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a SparseCore is handed. -/
def stRes (d : Dev nD) (c : Fin 2) : sProp 𝕄 :=
  iprop(∃ X : S100000x128.Idx → Elt F .f32, ⌜G d X⌝ ∗ (tLoc d ↦{scq c} X) ∗ (iLoc d ↦{scq c} Iv d)
    ∗ bigSep Finset.univ fun s : Fin 16 => oLoc d ↦[tileSet (co c s)]{fullShare} m6 d)
/-- What it hands back. -/
def dnRes (d : Dev nD) (c : Fin 2) : sProp 𝕄 :=
  bigSep Finset.univ fun s : Fin 16 => tdRes (Iv d) (hI d) (G d) d (co c s)

instance goRes_storable (I : S52096.Idx → Elt F .i32) (G : (S100000x128.Idx → Elt F .f32) → Prop) (d : Dev nD) (i : grid1.Coords) (q : PosShare TreeShare) (m : S51200x128.Idx → Elt F .f32) :
    BI.Storable (upEmb : UEmb _ 𝕄) (goRes I G d i q m) := by unfold goRes; infer_instance
instance tdRes_storable (I : S52096.Idx → Elt F .i32) (hI : ∀ x, (I x : BitVec 32).toNat < 100000) (G : (S100000x128.Idx → Elt F .f32) → Prop) (d : Dev nD) (i : grid1.Coords) :
    BI.Storable (upEmb : UEmb _ 𝕄) (tdRes I hI G d i) := by unfold tdRes; infer_instance
instance stRes_storable (d : Dev nD) (c : Fin 2) : BI.Storable (upEmb : UEmb _ 𝕄) (stRes Iv G m6 d c) := by unfold stRes; infer_instance
instance dnRes_storable (d : Dev nD) (c : Fin 2) : BI.Storable (upEmb : UEmb _ 𝕄) (dnRes Iv hI G d c) := by unfold dnRes; infer_instance

def P : (K (F := F)).Pay (nD := nD) (Val := Elt F) (Name := ℕ) (U := UU) where
  st := fun q d c => match q with | 0 => stRes Iv G m6 d (Fin.cast nCore_zero c)
  dn := fun q d c => match q with | 0 => dnRes Iv hI G d (Fin.cast nCore_zero c)
  go := fun q d c s => match q with | 0 => goRes (Iv d) (G d) d (co (Fin.cast nCore_zero c) (Fin.cast nSub_zero s)) (tlq (Fin.cast nCore_zero c) (Fin.cast nSub_zero s)) (m6 d)
  td := fun q d c s => match q with | 0 => tdRes (Iv d) (hI d) (G d) d (co (Fin.cast nCore_zero c) (Fin.cast nSub_zero s))
  x := fun _ _ => iprop(emp)

instance P_storable : (P Iv hI G m6).IsStorable where
  st q d c := match q with | 0 => stRes_storable Iv G m6 d (Fin.cast nCore_zero c)
  dn q d c := match q with | 0 => dnRes_storable Iv hI G d (Fin.cast nCore_zero c)
  go q d c s := match q with | 0 => goRes_storable (Iv d) (G d) d (co (Fin.cast nCore_zero c) (Fin.cast nSub_zero s)) (tlq (Fin.cast nCore_zero c) (Fin.cast nSub_zero s)) (m6 d)
  td q d c s := match q with | 0 => tdRes_storable (Iv d) (hI d) (G d) d (co (Fin.cast nCore_zero c) (Fin.cast nSub_zero s))

theorem defs₀_vector (c : Fin τ.nSC) (s : Fin τ.nSub) :
    defs₀ (F := F) (.scVector c s) 1 ()
      = SparseCore.onTile hcore1 hsub1 (fun c s => bodyP (F := F) (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P Iv hI G m6) v₀ 0 := by
  intro d c i O W hO _ _
  simp only [show (P Iv hI G m6).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (Iv d) (hI d) (G d) d (co (Fin.cast nCore_zero c) (Fin.cast nSub_zero i)) (tlq (Fin.cast nCore_zero c) (Fin.cast nSub_zero i)) (m6 d) O W hO).trans (wp_mono frame _ _ fun _ => obl_post)

theorem tab_tiles (d : Dev nD) (c : Fin 2) (X : S100000x128.Idx → Elt F .f32) :
    (tLoc d ↦{scq c} X : sProp 𝕄) = bigSep Finset.univ fun s : Fin 16 => tLoc d ↦{tlq c s} X :=
  pointsTo_piecesOf (Val := Elt F) (ℓ := tLoc d) Finset.univ X (o := 16) (by decide) (scq c)

theorem idx_tiles (d : Dev nD) (c : Fin 2) (I : S52096.Idx → Elt F .i32) :
    (iLoc d ↦{scq c} I : sProp 𝕄) = bigSep Finset.univ fun s : Fin 16 => iLoc d ↦{tlq c s} I :=
  pointsTo_piecesOf (Val := Elt F) (ℓ := iLoc d) Finset.univ I (o := 16) (by decide) (scq c)

theorem go_intro (d : Dev nD) (i : grid1.Coords) (q : PosShare TreeShare) (I : S52096.Idx → Elt F .i32) (H : (S100000x128.Idx → Elt F .f32) → Prop)
    (X : S100000x128.Idx → Elt F .f32) (hX : H X) (m : S51200x128.Idx → Elt F .f32) :
    iprop((tLoc d ↦{q} X) ∗ (iLoc d ↦{q} I) ∗ (oLoc d ↦[tileSet i]{fullShare} m)) ⊢ (goRes I H d i q m : sProp 𝕄) := by
  unfold goRes
  iintro ⟨H1, H2, H3⟩
  iexists X
  isplitr; · ipureintro; exact hX
  isplitl [H1]; · iexact H1
  isplitl [H2]; · iexact H2
  iexact H3

theorem st_tiles (d : Dev nD) (c : Fin 2) :
    stRes Iv G m6 d c ⊢ bigSep Finset.univ fun s : Fin 16 => goRes (Iv d) (G d) d (co c s) (tlq c s) (m6 d) := by
  unfold stRes
  refine BI.BIClass.exists_elim fun X => ?_
  rw [tab_tiles, idx_tiles, ← bigSep_sep', ← bigSep_sep']
  iintro ⟨%hX, H⟩
  have h : iprop(bigSep Finset.univ fun s : Fin 16 => iprop((tLoc d ↦{tlq c s} X) ∗ (iLoc d ↦{tlq c s} Iv d) ∗ (oLoc d ↦[tileSet (co c s)]{fullShare} m6 d)))
      ⊢ (bigSep Finset.univ fun s : Fin 16 => goRes (Iv d) (G d) d (co c s) (tlq c s) (m6 d) : sProp 𝕄) :=
    bigSep_mono fun s _ => go_intro d (co c s) (tlq c s) (Iv d) (G d) X hX (m6 d)
  iapply h $$ H

theorem vecSplit : (K (F := F)).VecSplit' (P Iv hI G m6) 0 := by
  intro d c
  show stRes Iv G m6 d (Fin.cast nCore_zero c) ⊢ |={Set.univ}=> iprop(
      (bigSep Finset.univ fun s : Fin ((K (F := F)).nSub 0) => goRes (Iv d) (G d) d (co (Fin.cast nCore_zero c) (Fin.cast nSub_zero s)) (tlq (Fin.cast nCore_zero c) (Fin.cast nSub_zero s)) (m6 d))
      ∗ ((bigSep Finset.univ fun s : Fin ((K (F := F)).nSub 0) => tdRes (Iv d) (hI d) (G d) d (co (Fin.cast nCore_zero c) (Fin.cast nSub_zero s)))
        -∗ dnRes Iv hI G d (Fin.cast nCore_zero c)))
  rw [bigSep_tasks (fun s => goRes (Iv d) (G d) d (co (Fin.cast nCore_zero c) s) (tlq (Fin.cast nCore_zero c) s) (m6 d)),
    bigSep_tasks (fun s => tdRes (Iv d) (hI d) (G d) d (co (Fin.cast nCore_zero c) s))]
  iintro H
  ihave H := (st_tiles Iv G m6 d _) $$ H
  imodintro
  isplitl [H]; · iexact H
  unfold dnRes
  iintro H; iexact H

/-! ## All the tasks' rows -/

theorem tile_disjoint : ∀ i j : grid1.Coords, i ≠ j → bC i + nC i ≤ bC j ∨ bC j + nC j ≤ bC i := by decide +kernel

theorem tile_cover : ∀ p : Fin 400, ∃ i : grid1.Coords, bC i ≤ p.val ∧ p.val < bC i + nC i := by decide +kernel

theorem tileSet_disjoint (i j : grid1.Coords) (h : i ≠ j) : Disjoint (tileSet i) (tileSet j) :=
  Finset.disjoint_left.mpr fun x hx hy => by
    have h1 := (mem_tileSet i x).mp hx
    have h2 := (mem_tileSet j x).mp hy
    have := tile_disjoint i j h
    omega

theorem tileSet_cover : (Finset.univ.biUnion tileSet) = Finset.univ := by
  ext x
  simp only [Finset.mem_biUnion, Finset.mem_univ, true_and, iff_true]
  have hx : (x 0).val < 51200 := (x 0).isLt
  obtain ⟨i, h⟩ := tile_cover ⟨(x 0).val / 128, by omega⟩
  exact ⟨i, (mem_tileSet i x).mpr h⟩

end Cert.Proof.Sc

end
-- ==== Proof.Deal.lean ====
/-
  What the SparseCores are handed for their call, from the whole arrays, and the one array of gathered rows that their tasks' parts
  make. Each row comes from some table with the property that the table's call promises.
-/
module

public import proofs.«01_k».proof.Proof.Split

@[expose] public section

noncomputable section

namespace Cert.Proof.Sc

open Cert.KernelIdeal Cert.KernelIdeal.Gen
open Idealize.ShloMosaic Idealize.ShloMosaic.TcCoe
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (Iv : Dev nD → S52096.Idx → Elt F .i32) (hI : ∀ d x, (Iv d x : BitVec 32).toNat < 100000)
variable (G : Dev nD → (S100000x128.Idx → Elt F .f32) → Prop) (m6 : Dev nD → S51200x128.Idx → Elt F .f32)

/-- A task's row set by its SparseCore and number. -/
abbrev tsP (p : Fin 2 × Fin 16) : Finset S51200x128.Idx := tileSet (co p.1 p.2)

theorem co_inj {p p' : Fin 2 × Fin 16} (h : co p.1 p.2 = co p'.1 p'.2) : p = p' :=
  Prod.ext (Fin.ext (congrArg (fun f : grid1.Coords => (f 0).val) h)) (Fin.ext (congrArg (fun f : grid1.Coords => (f 1).val) h))

theorem tsP_disjoint : ∀ p ∈ (Finset.univ : Finset (Fin 2 × Fin 16)), ∀ p' ∈ (Finset.univ : Finset (Fin 2 × Fin 16)), p ≠ p' → Disjoint (tsP p) (tsP p') :=
  fun _ _ _ _ h => tileSet_disjoint _ _ fun e => h (co_inj e)

theorem tsP_cover : (Finset.univ : Finset (Fin 2 × Fin 16)).biUnion tsP = Finset.univ := by
  ext x
  simp only [Finset.mem_biUnion, Finset.mem_univ, true_and, iff_true]
  obtain ⟨i, -, hi⟩ := Finset.mem_biUnion.mp (show x ∈ Finset.univ.biUnion tileSet by rw [tileSet_cover]; exact Finset.mem_univ x)
  refine ⟨(⟨(i 0).val, (i 0).isLt⟩, ⟨(i 1).val, (i 1).isLt⟩), ?_⟩
  have e : co ⟨(i 0).val, (i 0).isLt⟩ ⟨(i 1).val, (i 1).isLt⟩ = i := funext fun | 0 => rfl | 1 => rfl
  show x ∈ tileSet _
  rw [e]; exact hi

/-- The rows' array, dealt to the tasks. -/
theorem out_deal (d : Dev nD) (f : S51200x128.Idx → Elt F .f32) :
    (oLoc d ↦{fullShare} f : sProp 𝕄) = bigSep Finset.univ fun c : Fin 2 => bigSep Finset.univ fun s : Fin 16 => oLoc d ↦[tileSet (co c s)]{fullShare} f :=
  (show (oLoc d ↦{fullShare} f : sProp 𝕄) = oLoc d ↦[Finset.univ.biUnion tsP]{fullShare} f by rw [tsP_cover]).trans
    ((pointsTo_biUnion (Val := Elt F) (ℓ := oLoc d) Finset.univ tsP tsP_disjoint).trans
      (bigSep_univ_prod fun p : Fin 2 × Fin 16 => (oLoc d ↦[tsP p]{fullShare} f : sProp 𝕄)))

/-- What every SparseCore is handed, from the whole arrays. -/
theorem st_intro (d : Dev nD) (X : S100000x128.Idx → Elt F .f32) (hX : G d X) :
    iprop((tLoc d ↦{fullShare} X) ∗ (iLoc d ↦{fullShare} Iv d) ∗ (oLoc d ↦{fullShare} m6 d))
      ⊢ (bigSep Finset.univ fun c : Fin ((K (F := F)).nCore 0) => (P Iv hI G m6).st 0 d c : sProp 𝕄) := by
  rw [show (bigSep Finset.univ fun c : Fin ((K (F := F)).nCore 0) => (P Iv hI G m6).st 0 d c : sProp 𝕄) = bigSep Finset.univ (stRes Iv G m6 d) from bigSep_cores (stRes Iv G m6 d),
    out_deal, pointsTo_piecesOf (Val := Elt F) (ℓ := tLoc d) Finset.univ X (o := 2) (by decide) fullShare,
    pointsTo_piecesOf (Val := Elt F) (ℓ := iLoc d) Finset.univ (Iv d) (o := 2) (by decide) fullShare, ← bigSep_sep', ← bigSep_sep']
  have h : iprop(bigSep Finset.univ fun c : Fin 2 => iprop((tLoc d ↦{scq c} X) ∗ (iLoc d ↦{scq c} Iv d) ∗ bigSep Finset.univ fun s : Fin 16 => oLoc d ↦[tileSet (co c s)]{fullShare} m6 d))
      ⊢ (bigSep Finset.univ (stRes Iv G m6 d) : sProp 𝕄) := bigSep_mono fun c _ => by
    refine (show iprop((tLoc d ↦{scq c} X) ∗ (iLoc d ↦{scq c} Iv d) ∗ bigSep Finset.univ fun s : Fin 16 => oLoc d ↦[tileSet (co c s)]{fullShare} m6 d) ⊢ stRes Iv G m6 d c from ?_)
    unfold stRes
    iintro ⟨H1, H2, H3⟩
    iexists X
    isplitr; · ipureintro; exact hX
    isplitl [H1]; · iexact H1
    isplitl [H2]; · iexact H2
    iexact H3
  exact h

/-- What an element of the gathered rows may be. -/
def rowOK (I : S52096.Idx → Elt F .i32) (h : ∀ x, (I x : BitVec 32).toNat < 100000) (H : (S100000x128.Idx → Elt F .f32) → Prop) (x : S51200x128.Idx) (v : Elt F .f32) : Prop :=
  ∃ X, H X ∧ v = gath I h X x

/-- All the tasks' rows, one array. -/
theorem dn_elim (d : Dev nD) :
    (bigSep Finset.univ fun c : Fin ((K (F := F)).nCore 0) => (P Iv hI G m6).dn 0 d c : sProp 𝕄)
      ⊢ iprop(∃ f : S51200x128.Idx → Elt F .f32, ⌜∀ x, rowOK (Iv d) (hI d) (G d) x (f x)⌝ ∗ (oLoc d ↦{fullShare} f)) := by
  rw [show (bigSep Finset.univ fun c : Fin ((K (F := F)).nCore 0) => (P Iv hI G m6).dn 0 d c : sProp 𝕄) = bigSep Finset.univ (dnRes Iv hI G d) from bigSep_cores (dnRes Iv hI G d)]
  have h0 : (bigSep Finset.univ (dnRes Iv hI G d) : sProp 𝕄) = bigSep Finset.univ fun p : Fin 2 × Fin 16 => tdRes (Iv d) (hI d) (G d) d (co p.1 p.2) :=
    (bigSep_univ_prod fun p : Fin 2 × Fin 16 => (tdRes (Iv d) (hI d) (G d) d (co p.1 p.2) : sProp 𝕄)).symm
  rw [h0]
  have h1 : (bigSep Finset.univ fun p : Fin 2 × Fin 16 => tdRes (Iv d) (hI d) (G d) d (co p.1 p.2) : sProp 𝕄)
      ⊢ iprop(∃ Y : Fin 2 × Fin 16 → S100000x128.Idx → Elt F .f32, bigSep Finset.univ fun p : Fin 2 × Fin 16 => iprop(⌜G d (Y p)⌝ ∗ (oLoc d ↦[tsP p]{fullShare} gath (Iv d) (hI d) (Y p)))) :=
    bigSep_exists_pi (Y := fun _ : Fin 2 × Fin 16 => S100000x128.Idx → Elt F .f32) Finset.univ (fun p X => iprop(⌜G d X⌝ ∗ (oLoc d ↦[tsP p]{fullShare} gath (Iv d) (hI d) X)))
  iintro H
  ihave H := h1 $$ H
  icases H with ⟨%Y, H⟩
  ihave H := (bigSep_pure_sep Finset.univ (fun p => G d (Y p)) fun p => (oLoc d ↦[tsP p]{fullShare} gath (Iv d) (hI d) (Y p) : sProp 𝕄)) $$ H
  icases H with ⟨%hY, H⟩
  ihave H := (pointsTo_biUnion_join (Val := Elt F) (ℓ := oLoc d) (q := fullShare) Finset.univ tsP (fun p => gath (Iv d) (hI d) (Y p)) (gath (Iv d) (hI d) (Y (0, 0))) tsP_disjoint) $$ H
  icases H with ⟨%g, %hg, H⟩
  rw [tsP_cover]
  iexists g
  isplitr
  · ipureintro
    intro x
    obtain ⟨p, hp, hx⟩ := Finset.mem_biUnion.mp (show x ∈ Finset.univ.biUnion tsP by rw [tsP_cover]; exact Finset.mem_univ x)
    exact ⟨Y p, hY p hp, hg p hp x hx⟩
  iexact H

end Cert.Proof.Sc

end
-- ==== Proof.Region.lean ====
/-
  A TensorCore call inside @main of a program with a SparseCore call. The TensorCore carries through it what it still owes the
  SparseCores (`ow`), and the call's arrays at a valuation; at the call's end they hold something that its
  write-backs may have left.
-/
module

public import proofs.«01_k».proof.Proof.Base
public import proofs.«01_k».proof.Proof.Gen.KernelIdeal.Points
public import Idealize.ShloMosaic.Lib.Pipeline.RegionsLoop
public import Idealize.ShloMosaic.Lib.Pipeline.DatRel
public import Idealize.ShloMosaic.Lib.Pipeline.ArrRel

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window WinFacts)

variable {F : FTy → Type} [FloatOps F]

local notation "𝕄" => MT nD τ sig (HIx 1) (Elt F) ℕ UU ℕ

/-- No pipeline has prefetched tables. -/
abbrev adm : (p : Fin 2) → (pcfgs (F := F) p).Adm := fun p => (cfgs p).toPCfg_adm

/-- What the TensorCore owes before SparseCore call `n`, with the bound on the waits it has recorded. -/
abbrev owB (d : Dev nD) (n : ℕ) : Set (SemLoc sig × HIx 1) := {p | (K (F := F)).lev (T d, p.1) p.2 ≤ 8 * SparseCore.Cfg.Blocks.fst (Q := 1) (N := 1) n}
abbrev ow (d : Dev nD) (n : ℕ) : sProp 𝕄 :=
  iprop(∃ W, ⌜(K (F := F)).WBelow (T d) W (8 * SparseCore.Cfg.Blocks.fst (Q := 1) (N := 1) n)⌝ ∗ owes (T d) ((K (F := F)).Otc d n) W)

variable (rdats : (p : Fin 2) → (c : Dev nD) → RDat τ (Elt F) (HIx 1) ℕ UU ℕ (Pipeline.pin (pcfgs (F := F)) adm p) c)

theorem owed_none (d : Dev nD) (n : ℕ) (g : GSem nD τ sig) : (K (F := F)).Otc (N := 1) d n g none = 0 := by
  by_contra h
  have := SparseCore.Cfg.lev_of_Otc_pos (K := K (F := F)) (Nat.pos_of_ne_zero h)
  rw [show (K (F := F)).lev g none = 0 from rfl] at this
  omega

set_option backward.isDefEq.respectTransparency.types false in
def reg (p : Fin 2) (n : ℕ) (V : (c : Dev nD) → (b : Ref sig .tc) → Buf (Elt F) ((c : Thread nD τ).loc b))
    (hk : Pipeline.LaunchFacts (nD := nD) (τ := τ) (Pipeline.pin (pcfgs (F := F)) adm) p)
    (hbody : ∀ c, (rdats p c).BodyObligation defs₀ 𝒱₀ none Set.univ)
    (hΦ : ∀ c t, (rdats p c).Φ t = Pipeline.scopedRest (Pipeline.pin (pcfgs (F := F)) adm p).spec c)
    (howed : ∀ c t, (rdats p c).owed t = (K (F := F)).Otc c n) (hrec : ∀ c t, (rdats p c).recorded t = owB (F := F) c n)
    (hshare : ∀ c w, (rdats p c).share w = fullShare)
    (hA : ∀ c w, (rdats p c).A w = V c (Pipeline.arrRef (Pipeline.pin (pcfgs (F := F)) adm p).spec w)) :
    RDat.RegionSeg (pcfgs (F := F)) adm rdats none defs₀ 𝒱₀ (K (F := F)).L (K (F := F)).lev p where
  win := hk.win.to₀
  block_pos := hk.block_pos
  stage_whole := hk.stage_whole
  K := PEmpty
  osem k := k.elim
  ho := Pipeline.OwnSemFacts.none _
  hbody := hbody
  hwaits c := RDat.cellsWaits_intro _ rdats none p c fun w s t => by
    rw [howed]; exact (K (F := F)).mayWait_none _ (owed_none c n)
  pre c := iprop((bigSep Finset.univ fun w => (((c : Thread nD τ).loc (Pipeline.arrRef (Pipeline.pin (pcfgs (F := F)) adm p).spec w)) ↦{fullShare} V c (Pipeline.arrRef (Pipeline.pin (pcfgs (F := F)) adm p).spec w))) ∗ ow (F := F) c n)
  post c := iprop((bigSep Finset.univ fun w => iprop(∃ X, ⌜(rdats p c).ArrAt w (Pipeline.pin (pcfgs (F := F)) adm p).N X⌝ ∗ (((c : Thread nD τ).loc (Pipeline.arrRef (Pipeline.pin (pcfgs (F := F)) adm p).spec w)) ↦{fullShare} X))) ∗ ow (F := F) c n)
  X _ := BI.emp
  Y _ := BI.emp
  Z _ := BI.emp
  hentry c := by
    rw [Pipeline.ownSems0_none]
    rw [RDat.arrays_eq (pcfgs (F := F)) adm rdats p c hk.arr_whole (hshare c), show (rdats p c).A = fun w => V c (Pipeline.arrRef (Pipeline.pin (pcfgs (F := F)) adm p).spec w) from funext (hA c)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      rw [howed]
      icases HO with ⟨%W, %hW, HO⟩; iexists W; isplitr; · ipureintro; exact fun x hx => Or.inl (by rw [hrec]; exact hW x hx)
      iexact HO
    isplitr; · iempintro
    iempintro
  hin c := by
    rw [hΦ]
    iintro ⟨-, -, Hr⟩; iexact Hr
  hout c := by
    rw [Pipeline.ownSems0_none, hΦ]
    iintro Hr
    isplitr; · iempintro
    isplitr; · iempintro
    iexact Hr
  hexit c := by
    unfold RDat.owesAt Pipeline.owesWithin
    rw [howed, RDat.arraysAt_eq (pcfgs (F := F)) adm rdats p c hk.arr_whole (hshare c)]
    iintro ⟨Ha, ⟨%W, %hW, HO⟩, -, -⟩
    imodintro
    isplitl [Ha]; · iexact Ha
    iexists W
    isplitr
    · ipureintro
      intro x hx
      rcases hW hx with h | ⟨w, s, rfl⟩
      · rw [hrec] at h; exact h
      · exact Nat.zero_le _
    iexact HO

end Cert.Proof.Sc

end
-- ==== Proof.Table.lean ====
/-
  The table's call on the TensorCore: relu of a contraction of the transposed embedding with the second weight matrix. Its body's
  run at any block, its proof data at a valuation of the arrays, and what the table may hold afterwards. The last block overhangs
  the table's end: what the body computes from the part of a buffer that no fetch fills is never written back, and the contraction
  of a block is kept whole (over words it isn't known to be row by row), so that the table is held to a relation.
-/
module

public import proofs.«01_k».proof.Proof.Region
public import Idealize.ShloMosaic.Lib.Pipeline.Value
public import Idealize.ShloMosaic.Lib.Pipeline.Frame
public import Idealize.ShloMosaic.Lib.Tactic

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window WinFacts)

variable {F : FTy → Type} [FloatOps F]

local notation "𝕄" => MT nD τ sig (HIx 1) (Elt F) ℕ UU ℕ

theorem hz2 : (![0, 0] : Fin 2 → Nat) = fun _ => 0 := funext fun a => by fin_cases a <;> rfl

/-- The body's run, at any contents of its four buffers. -/
theorem ff_run (c : Dev nD) (i : grid0.Coords) (M1 : Memref sig .tc .vmem S64x12544 .f32) (h1 : M1.IsWhole) (M2 : Memref sig .tc .vmem S64x128 .f32) (h2 : M2.IsWhole)
    (M3 : Memref sig .tc .vmem S1x128 .f32) (h3 : M3.IsWhole) (M4 : Memref sig .tc .vmem S12544x128 .f32) (h4 : M4.IsWhole)
    (X1 : Vec F S64x12544 .f32) (X2 : Vec F S64x128 .f32) (X3 : Vec F S1x128 .f32) (X4 : Vec F S12544x128 .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (iprop(owns (c : Thread nD τ) M1 fullShare X1 ∗ owns (c : Thread nD τ) M2 fullShare X2 ∗ owns (c : Thread nD τ) M3 fullShare X3
            ∗ owns (c : Thread nD τ) M4 fullShare (k0_pay1 X1 X2 X3)) -∗ Q ⟨⟩))
      ⊢ wp frame (wpE (defs₀ (F := F)) 𝒱₀ c none) E (cc0__relu_ff_t_body (F := F) i M1 h1 M2 h2 M3 h3 M4 h4) Q := by
  unfold owns
  rw [cc0__relu_ff_t_body_eq_skeleton]
  iintro ⟨⟨%f1, %e1, H1⟩, ⟨%f2, %e2, H2⟩, ⟨%f3, %e3, H3⟩, ⟨%f4, %e4, H4⟩, Hk⟩
  have g1 := h1.eq_unread e1
  have g2 := h2.eq_unread e2
  have g3 := h3.eq_unread e3
  have g4 := h4.eq_unread e4
  subst g1; subst g2; subst g3; subst g4
  unfold cc0__relu_ff_t_body_skel
  sl_exec!
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  iexists _; isplitr; swap; (· iexact H4)
  ipureintro
  sl_unfold_words
  rw [View.read_writes_eq_canon _ _ _ ?cov]
  case cov => exact fun y => ⟨_, List.mem_singleton_self _, View.mem_set_unit_zero hz2 inb_S12544x128_S12544x128_0_0 y⟩
  rw [View.canon_unit_zero hz2]
  simp only [View.readAt_eq_ld, h1.read_unread, h2.read_unread, h3.read_unread, View.ld_unit_zero (S := S64x12544) hz2, View.ld_unit_zero (S := S64x128) hz2, View.ld_unit_zero (S := S1x128) hz2]

/-! ## The call's proof data at a valuation -/

variable [∀ e, Nonempty (Elt F e)] (V : (c : Dev nD) → (b : Ref sig .tc) → Buf (Elt F) ((c : Thread nD τ).loc b))

/-- What a window's buffer holds when the body runs: the block, over anything where the block is cut. -/
def aft0 (c : Dev nD) (w : Fin cfg0.W) (t : Fin cfg0.N) : (cfg0.win w).block.Idx → Elt F (cfg0.win w).elt :=
  (cfg0.win w).fill (cfg0.grid.coords t) (fun _ => Classical.arbitrary _) (((cfg0.win w).blk t).view.read (Elt F) (V c (Pipeline.arrRef spec0 w)))

def dat0 (c : Dev nD) : Dat τ (Elt F) (HIx 1) ℕ UU ℕ cfg0 c where
  A w := V c (Pipeline.arrRef spec0 w)
  after := aft0 V c
  Φ _ := Pipeline.scopedRest (Ix := HIx 1) (Name := ℕ) (U := UU) (Lvl := ℕ) (Val := Elt F) spec0 c
  q _ := fullShare
  owed _ := (K (F := F)).Otc c 0
  recorded _ := owB (F := F) c 0

/-- The table's window is held to a relation: some block of the operands' put through the body's arithmetic. -/
abbrev fgt0 : Fin cfg0.W → Bool := fun | 3 => true | _ => false

def Rl0 (c : Dev nD) : (w : Fin cfg0.W) → Fin cfg0.N → ((cfg0.win w).block.Idx → Elt F (cfg0.win w).elt) → Prop := fun
  | 3 => fun t X => ∃ d : Vec F S64x12544 .f32, X = k0_pay1 ((dat0 V c).fetched 0 t d) (aft0 V c 1 t) (aft0 V c 2 t)
  | _ => fun _ _ => True

theorem before0_0 (c : Dev nD) (t : Fin cfg0.N) (d) : (dat0 V c).before 0 t d = (dat0 V c).fetched 0 t d :=
  (dat0 V c).before_fetched 0 t (fetch0_0 t) d

theorem before0_1 (c : Dev nD) (t : Fin cfg0.N) (d) : (dat0 V c).before 1 t d = aft0 V c 1 t :=
  ((dat0 V c).before_in_eq_fetched 1 rfl (fun _ => rfl) (fun _ _ _ => rfl) (fun _ => (cfg0.win 1).cut_fill _ (fun _ => Classical.arbitrary _) _) t d).trans
    ((dat0 V c).fetched_of_clip_none 1 t (fun _ => rfl) _ _)

theorem before0_2 (c : Dev nD) (t : Fin cfg0.N) (d) : (dat0 V c).before 2 t d = aft0 V c 2 t :=
  ((dat0 V c).before_in_eq_fetched 2 rfl (fun _ => rfl) (fun _ _ _ => rfl) (fun _ => (cfg0.win 2).cut_fill _ (fun _ => Classical.arbitrary _) _) t d).trans
    ((dat0 V c).fetched_of_clip_none 2 t (fun _ => rfl) _ _)

set_option backward.isDefEq.respectTransparency.types false in
theorem body0 (c : Dev nD) : Pipeline.BodyObligationRel (dat0 V c) (defs₀ (F := F)) 𝒱₀ none Set.univ fgt0 (Rl0 V c) := fun t => by
  rw [bigSep_W0, bigSep_W0]
  show iprop((dat0 V c).Φ t.castSucc ∗ (dat0 V c).owesAt none t.castSucc
      ∗ iprop(∃ d, owns (c : Thread nD τ) (st0_0 t) fullShare ((dat0 V c).before 0 t d))
      ∗ iprop(∃ d, owns (c : Thread nD τ) (st0_1 t) fullShare ((dat0 V c).before 1 t d))
      ∗ iprop(∃ d, owns (c : Thread nD τ) (st0_2 t) fullShare ((dat0 V c).before 2 t d))
      ∗ iprop(∃ Y, ⌜((dat0 V c).toRRel fgt0 (Rl0 V c)).Finds 3 t Y⌝ ∗ owns (c : Thread nD τ) (st0_3 t) fullShare Y))
    ⊢ wp frame (wpE (defs₀ (F := F)) 𝒱₀ c none) Set.univ (bodyAt0 t) fun _ => iprop((dat0 V c).Φ t.succ ∗ (dat0 V c).owesAt none t.succ
      ∗ iprop(∃ d, owns (c : Thread nD τ) (st0_0 t) fullShare ((cfg0.win 0).fill (cfg0.grid.coords t) d ((cfg0.win 0).cut (cfg0.grid.coords t) ((dat0 V c).after 0 t))))
      ∗ owns (c : Thread nD τ) (st0_1 t) fullShare ((dat0 V c).after 1 t)
      ∗ owns (c : Thread nD τ) (st0_2 t) fullShare ((dat0 V c).after 2 t)
      ∗ iprop(∃ X, ⌜Rl0 V c 3 t X⌝ ∗ owns (c : Thread nD τ) (st0_3 t) fullShare X))
  iintro ⟨HΦ, Ho, ⟨%d0, H0⟩, ⟨%d1, H1⟩, ⟨%d2, H2⟩, ⟨%Y, -, H3⟩⟩
  rw [before0_0, before0_1, before0_2, show (dat0 V c).Φ t.succ = (dat0 V c).Φ t.castSucc from rfl,
    show (dat0 V c).owesAt none t.succ = (dat0 V c).owesAt none t.castSucc from rfl]
  iapply (ff_run c (grid0.coords t) (st0_0 t) _ (st0_1 t) _ (st0_2 t) _ (st0_3 t) _ ((dat0 V c).fetched 0 t d0) (aft0 V c 1 t) (aft0 V c 2 t) Y Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists d0
    rw [show (cfg0.win 0).fill (cfg0.grid.coords t) d0 ((cfg0.win 0).cut (cfg0.grid.coords t) ((dat0 V c).after 0 t)) = (dat0 V c).fetched 0 t d0 from
      congrArg ((cfg0.win 0).fill (cfg0.grid.coords t) d0) ((cfg0.win 0).cut_fill _ _ _)]
    iexact H0
  isplitl [H1]; · iexact H1
  isplitl [H2]; · iexact H2
  iexists _; isplitr; swap; (· iexact H3)
  ipureintro; exact ⟨d0, rfl⟩

/-! ## What the table holds after the call -/

/-- An element of the table, from the call's operands: the body's arithmetic on some block that agrees with the operand
    where the block lies inside it, and the element of it that the row and the lane name. -/
def tabP (A : S64x100000.Idx → Elt F .f32) (W : Vec F S64x128 .f32) (b : Vec F S1x128 .f32) (i : S100000x128.Idx) (v : Elt F .f32) : Prop :=
  ∃ (t : Fin 8) (B : Vec F S64x12544 .f32) (j : S12544x128.Idx), (i 0).val = 12544 * t.val + (j 0).val ∧ (i 1).val = (j 1).val
    ∧ (∀ (x : S64x12544.Idx) (y : S64x100000.Idx), (y 0).val = (x 0).val → (y 1).val = 12544 * t.val + (x 1).val → B x = A y)
    ∧ v = k0_pay1 B W b j

theorem ix0_0 (t : Fin cfg0.N) : win0_0.index t = ![0, t.val] :=
  (by decide +kernel : ∀ t : Fin grid0.N, win0_0.index t = ![0, t.val]) t
theorem ix0_3 (t : Fin cfg0.N) : win0_3.index t = ![t.val, 0] :=
  (by decide +kernel : ∀ t : Fin grid0.N, win0_3.index t = ![t.val, 0]) t
theorem ix0_1 (t : Fin cfg0.N) : win0_1.index t = ![0, 0] :=
  (by decide +kernel : ∀ t : Fin grid0.N, win0_1.index t = ![0, 0]) t
theorem ix0_2 (t : Fin cfg0.N) : win0_2.index t = ![0, 0] :=
  (by decide +kernel : ∀ t : Fin grid0.N, win0_2.index t = ![0, 0]) t
theorem xs0_0 (t : Fin cfg0.N) : win0_0.xsize (grid0.coords t) 0 = 64 ∧ win0_0.xsize (grid0.coords t) 1 = min 12544 (100000 - 12544 * t.val) :=
  (by decide +kernel : ∀ t : Fin grid0.N, win0_0.xsize (grid0.coords t) 0 = 64 ∧ win0_0.xsize (grid0.coords t) 1 = min 12544 (100000 - 12544 * t.val)) t

theorem fetched0_0 (c : Dev nD) (t : Fin cfg0.N) (d : Vec F S64x12544 .f32) (x : S64x12544.Idx) (y : S64x100000.Idx)
    (h0 : (y 0).val = (x 0).val) (h1 : (y 1).val = 12544 * t.val + (x 1).val) :
    ((dat0 V c).fetched 0 t d : Vec F S64x12544 .f32) x = (V c main_v0 : S64x100000.Idx → Elt F .f32) y := by
  have hx : ∀ a : Fin 2, (x a).val < win0_0.xsize (grid0.coords t) a := by
    intro a
    have hy : (y 1).val < 100000 := (y 1).isLt
    have h0' : (x 0).val < 64 := (x 0).isLt
    have h1' : (x 1).val < 12544 := (x 1).isLt
    fin_cases a
    · exact lt_of_lt_of_eq h0' (xs0_0 t).1.symm
    · exact lt_of_lt_of_eq (show (x 1).val < min 12544 (100000 - 12544 * t.val) by omega) (xs0_0 t).2.symm
  refine ((cfg0.win 0).fill_xinj (cfg0.grid.coords t) d _ fun a => ⟨(x a).val, hx a⟩).trans ?_
  show (V c main_v0 : S64x100000.Idx → Elt F .f32) ((win0_0.blk t).view.emb _) = _
  congr 1
  funext a
  apply Fin.ext
  fin_cases a
  · blk_simp [ix0_0]; exact h0.symm
  · blk_simp [ix0_0]
    show t.val * 12544 + (x 1).val = (y 1).val
    rw [h1, Nat.mul_comm]

theorem aft0_1 (c : Dev nD) (t : Fin cfg0.N) : aft0 V c 1 t = (V c main_arg5 : S64x128.Idx → Elt F .f32) := by
  funext x
  refine ((cfg0.win 1).fill_xinj (cfg0.grid.coords t) _ _ x).trans ?_
  show (V c main_arg5 : S64x128.Idx → Elt F .f32) ((win0_1.blk t).view.emb x) = _
  congr 1
  funext a
  apply Fin.ext
  fin_cases a
  · blk_simp [ix0_1]
  · blk_simp [ix0_1]

theorem aft0_2 (c : Dev nD) (t : Fin cfg0.N) : aft0 V c 2 t = (V c main_v1 : S1x128.Idx → Elt F .f32) := by
  funext x
  refine ((cfg0.win 2).fill_xinj (cfg0.grid.coords t) _ _ x).trans ?_
  show (V c main_v1 : S1x128.Idx → Elt F .f32) ((win0_2.blk t).view.emb x) = _
  congr 1
  funext a
  apply Fin.ext
  fin_cases a
  · blk_simp [ix0_2]
  · blk_simp [ix0_2]

theorem tab_of_arrAt (c : Dev nD) (X : S100000x128.Idx → Elt F .f32) (hX : ((dat0 V c).toRRel fgt0 (Rl0 V c)).ArrAt 3 cfg0.N X) (i : S100000x128.Idx) :
    tabP (V c main_v0) (V c main_arg5) (V c main_v1) i (X i) := by
  obtain ⟨Y, hY, hX⟩ := Pipeline.RDat.ArrAt.exists_exact hX
  have hX := hX (Function.update (aft0 V c) 3 Y) fun u _ _ => by rw [Function.update_self]
  rw [hX]
  refine Pipeline.Dat.arrAt_forall_of_covers (cfg := cfg0) (c := c) (((dat0 V c).toRRel fgt0 (Rl0 V c)).withAfter (Function.update (aft0 V c) 3 Y)) 3 (fun i v => tabP (V c main_v0) (V c main_arg5) (V c main_v1) i v) (by decide +kernel) (fun t hf y => ?_) i
  obtain ⟨d, hd⟩ := (dat0 V c).toRRel_leaves rfl (hY t t.isLt hf)
  have hN : t.val < 8 := lt_of_lt_of_eq t.isLt N_0
  rw [aft0_1, aft0_2] at hd
  rw [Pipeline.RDat.withAfter_after, Function.update_self, hd]
  refine ⟨⟨t.val, hN⟩, (dat0 V c).fetched 0 t d, fun a => ⟨(y a).val, ?_⟩, ?_, ?_, fetched0_0 V c t d, rfl⟩
  · exact (y a).isLt.trans_le ((cfg0.win 3).xsize_le _ a)
  · blk_simp [ix0_3]
    show t.val * 12544 + (y 0).val = 12544 * t.val + (y 0).val
    rw [Nat.mul_comm]
  · blk_simp [ix0_3]

end Cert.Proof.Sc

end
-- ==== Proof.Soft.lean ====
/-
  The last call on the TensorCore: the logits of the gathered rows and their softmax over the classes, two positions of the
  sequences at a grid point. Its body's run at any block, its proof data at a valuation of the arrays, and the whole result as one
  function of the call's operands.
-/
module

public import proofs.«01_k».proof.Proof.Region
public import Idealize.ShloMosaic.Lib.Pipeline.Value
public import Idealize.ShloMosaic.Lib.Pipeline.Frame
public import Idealize.ShloMosaic.Lib.Tactic

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window WinFacts)

variable {F : FTy → Type} [FloatOps F]

local notation "𝕄" => MT nD τ sig (HIx 1) (Elt F) ℕ UU ℕ

theorem hz2s : (![0, 0] : Fin 2 → Nat) = fun _ => 0 := funext fun a => by fin_cases a <;> rfl

/-- Half `h` of a block of 2048 gathered rows. -/
def half (h : Fin 2) (X : Vec F S2048x128 .f32) : Vec F S1024x128 .f32 :=
  fun x => X (fun | 0 => ⟨1024 * h.val + (x 0).val, by have := (x 0).isLt; have : S1024x128.size 0 = 1024 := rfl; have := h.isLt; show _ < 2048; omega⟩ | 1 => x 1)

/-- What the body leaves: each half's softmax. -/
def soft (W : Vec F S1000x128 .f32) (X : Vec F S2048x128 .f32) (b : Vec F S1000x1 .f32) : Vec F S2x1000x1024 .f32 :=
  fun y => k2_pay2 W (half (y 0) X) b (fun | 0 => (0 : Fin 1) | 1 => y 1 | 2 => y 2)

/-- The two halves of the result's buffer cover it. -/
theorem sm_cov {v1 v0 : S1x1000x1024.Idx → Elt F .f32} (y : S2x1000x1024.Idx) :
    ∃ p ∈ ([⟨Rect.unit ![1, 0, 0] S1x1000x1024.size inb_S2x1000x1024_S1x1000x1024_1_0_0, v1⟩,
      ⟨Rect.unit ![0, 0, 0] S1x1000x1024.size inb_S2x1000x1024_S1x1000x1024_0_0_0, v0⟩] : List (View.Piece (Elt F) S2x1000x1024 .f32)), y ∈ p.1.set := by
  have h0 : (y 0).val < 2 := (y 0).isLt
  have h1 : (y 1).val < 1000 := (y 1).isLt
  have h2 : (y 2).val < 1024 := (y 2).isLt
  by_cases h : (y 0).val = 1
  · refine ⟨_, List.mem_cons_self, (Rect.mem_set_unit (inb := inb_S2x1000x1024_S1x1000x1024_1_0_0)).mpr fun a => ?_⟩
    fin_cases a
    · exact ⟨h.ge, by show (y 0).val < 1 + 1; omega⟩
    · exact ⟨Nat.zero_le _, by show (y 1).val < 0 + 1000; omega⟩
    · exact ⟨Nat.zero_le _, by show (y 2).val < 0 + 1024; omega⟩
  · refine ⟨_, List.mem_cons_of_mem _ List.mem_cons_self, (Rect.mem_set_unit (inb := inb_S2x1000x1024_S1x1000x1024_0_0_0)).mpr fun a => ?_⟩
    fin_cases a
    · exact ⟨Nat.zero_le _, by show (y 0).val < 0 + 1; omega⟩
    · exact ⟨Nat.zero_le _, by show (y 1).val < 0 + 1000; omega⟩
    · exact ⟨Nat.zero_le _, by show (y 2).val < 0 + 1024; omega⟩

/-- Each of the two stores writes its half of `soft`. -/
theorem sm_piece (h : Fin 2) (inb : ∀ a, ![h.val, 0, 0] a + S1x1000x1024.size a ≤ S2x1000x1024.size a) (inb' : ∀ a, ![1024 * h.val, 0] a + S1024x128.size a ≤ S2048x128.size a)
    (W : Vec F S1000x128 .f32) (X : Vec F S2048x128 .f32) (b : Vec F S1000x1 .f32) (x : S1x1000x1024.Idx) :
    k2_pay2 W (View.ld X (Rect.unit (s := S2048x128) ![1024 * h.val, 0] S1024x128.size inb')) b x
      = soft W X b ((Rect.unit (s := S2x1000x1024) ![h.val, 0, 0] S1x1000x1024.size inb).emb x) := by
  have hx : (x 0).val = 0 := Nat.lt_one_iff.mp (x 0).isLt
  have e0 : (Rect.unit (s := S2x1000x1024) ![h.val, 0, 0] S1x1000x1024.size inb).emb x 0 = h := Fin.ext (by
    show h.val + 1 * (x 0).val = h.val; omega)
  unfold soft
  rw [e0, show half h X = View.ld X (Rect.unit (s := S2048x128) ![1024 * h.val, 0] S1024x128.size inb') from funext fun z => congrArg X (funext fun a => Fin.ext (by
    fin_cases a
    · show 1024 * h.val + (z 0).val = 1024 * h.val + 1 * (z 0).val; omega
    · show (z 1).val = 0 + 1 * (z 1).val; omega))]
  refine congrArg (k2_pay2 W _ b) (funext fun a => Fin.ext ?_)
  fin_cases a
  · exact hx
  · show (x 1).val = 0 + 1 * (x 1).val; omega
  · show (x 2).val = 0 + 1 * (x 2).val; omega

/-- The body's run, at any contents of its four buffers. -/
theorem sm_run (c : Dev nD) (i : grid2.Coords) (M1 : Memref sig .tc .vmem S2048x128 .f32) (h1 : M1.IsWhole) (M2 : Memref sig .tc .vmem S1000x128 .f32) (h2 : M2.IsWhole)
    (M3 : Memref sig .tc .vmem S1000x1 .f32) (h3 : M3.IsWhole) (M4 : Memref sig .tc .vmem S2x1000x1024 .f32) (h4 : M4.IsWhole)
    (X1 : Vec F S2048x128 .f32) (X2 : Vec F S1000x128 .f32) (X3 : Vec F S1000x1 .f32) (X4 : Vec F S2x1000x1024 .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (iprop(owns (c : Thread nD τ) M1 fullShare X1 ∗ owns (c : Thread nD τ) M2 fullShare X2 ∗ owns (c : Thread nD τ) M3 fullShare X3
            ∗ owns (c : Thread nD τ) M4 fullShare (soft X2 X1 X3)) -∗ Q ⟨⟩))
      ⊢ wp frame (wpE (defs₀ (F := F)) 𝒱₀ c none) E (cc2__out_softmax_t_body (F := F) i M1 h1 M2 h2 M3 h3 M4 h4) Q := by
  unfold owns
  rw [cc2__out_softmax_t_body_eq_skeleton]
  iintro ⟨⟨%f1, %e1, H1⟩, ⟨%f2, %e2, H2⟩, ⟨%f3, %e3, H3⟩, ⟨%f4, %e4, H4⟩, Hk⟩
  have g1 := h1.eq_unread e1
  have g2 := h2.eq_unread e2
  have g3 := h3.eq_unread e3
  have g4 := h4.eq_unread e4
  subst g1; subst g2; subst g3; subst g4
  unfold cc2__out_softmax_t_body_skel
  rw [k2_part1_eq_skeleton]
  unfold k2_part1_skel
  sl_exec!
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  iexists _; isplitr; swap; (· iexact H4)
  ipureintro
  sl_unfold_words
  rw [View.read_writes_eq_canon _ _ _ ?cov]
  case cov => exact sm_cov
  simp only [View.readAt_eq_ld, h1.read_unread, h2.read_unread, h3.read_unread, View.ld_unit_zero (S := S1000x128) hz2s, View.ld_unit_zero (S := S1000x1) hz2s]
  funext y
  refine View.canon_apply_of_pieces (soft X2 X1 X3) _ (fun p hp x => ?_) y (sm_cov y)
  rcases List.mem_cons.mp hp with rfl | hp
  · exact sm_piece 1 inb_S2x1000x1024_S1x1000x1024_1_0_0 inb_S2048x128_S1024x128_1024_0 X2 X1 X3 x
  · obtain rfl := List.mem_singleton.mp hp
    exact sm_piece 0 inb_S2x1000x1024_S1x1000x1024_0_0_0 inb_S2048x128_S1024x128_0_0 X2 X1 X3 x

/-! ## The call's proof data at a valuation -/

variable [∀ e, Nonempty (Elt F e)] (V : (c : Dev nD) → (b : Ref sig .tc) → Buf (Elt F) ((c : Thread nD τ).loc b))

/-- An input window's block. -/
def blk2 (c : Dev nD) (w : Fin cfg2.W) (t : Fin cfg2.N) : (cfg2.win w).block.Idx → Elt F (cfg2.win w).elt :=
  (cfg2.win w).fill (cfg2.grid.coords t) (fun _ => Classical.arbitrary _) (((cfg2.win w).blk t).view.read (Elt F) (V c (Pipeline.arrRef spec2 w)))

def aft2 (c : Dev nD) : (w : Fin cfg2.W) → (t : Fin cfg2.N) → (cfg2.win w).block.Idx → Elt F (cfg2.win w).elt := fun
  | 3 => fun t => soft (blk2 V c 1 t) (blk2 V c 0 t) (blk2 V c 2 t)
  | 0 => blk2 V c 0
  | 1 => blk2 V c 1
  | 2 => blk2 V c 2

def dat2 (c : Dev nD) : Dat τ (Elt F) (HIx 1) ℕ UU ℕ cfg2 c where
  A w := V c (Pipeline.arrRef spec2 w)
  after := aft2 V c
  Φ _ := Pipeline.scopedRest (Ix := HIx 1) (Name := ℕ) (U := UU) (Lvl := ℕ) (Val := Elt F) spec2 c
  q _ := fullShare
  owed _ := (K (F := F)).Otc c 1
  recorded _ := owB (F := F) c 1

theorem before2_0 (c : Dev nD) (t : Fin cfg2.N) (d) : (dat2 V c).before 0 t d = blk2 V c 0 t :=
  ((dat2 V c).before_in_eq_fetched 0 rfl (fun _ => rfl) (fun _ _ _ => rfl) (fun _ => (cfg2.win 0).cut_fill _ (fun _ => Classical.arbitrary _) _) t d).trans
    ((dat2 V c).fetched_of_clip_none 0 t (fun _ => rfl) _ _)
theorem before2_1 (c : Dev nD) (t : Fin cfg2.N) (d) : (dat2 V c).before 1 t d = blk2 V c 1 t :=
  ((dat2 V c).before_in_eq_fetched 1 rfl (fun _ => rfl) (fun _ _ _ => rfl) (fun _ => (cfg2.win 1).cut_fill _ (fun _ => Classical.arbitrary _) _) t d).trans
    ((dat2 V c).fetched_of_clip_none 1 t (fun _ => rfl) _ _)
theorem before2_2 (c : Dev nD) (t : Fin cfg2.N) (d) : (dat2 V c).before 2 t d = blk2 V c 2 t :=
  ((dat2 V c).before_in_eq_fetched 2 rfl (fun _ => rfl) (fun _ _ _ => rfl) (fun _ => (cfg2.win 2).cut_fill _ (fun _ => Classical.arbitrary _) _) t d).trans
    ((dat2 V c).fetched_of_clip_none 2 t (fun _ => rfl) _ _)

set_option backward.isDefEq.respectTransparency.types false in
theorem body2 (c : Dev nD) : Pipeline.BodyObligationRel (dat2 V c) (defs₀ (F := F)) 𝒱₀ none Set.univ (fun _ => false) (fun _ _ _ => True) := fun t => by
  rw [bigSep_W2, bigSep_W2]
  show iprop((dat2 V c).Φ t.castSucc ∗ (dat2 V c).owesAt none t.castSucc
      ∗ iprop(∃ d, owns (c : Thread nD τ) (st2_0 t) fullShare ((dat2 V c).before 0 t d))
      ∗ iprop(∃ d, owns (c : Thread nD τ) (st2_1 t) fullShare ((dat2 V c).before 1 t d))
      ∗ iprop(∃ d, owns (c : Thread nD τ) (st2_2 t) fullShare ((dat2 V c).before 2 t d))
      ∗ iprop(∃ d, owns (c : Thread nD τ) (st2_3 t) fullShare ((dat2 V c).before 3 t d)))
    ⊢ wp frame (wpE (defs₀ (F := F)) 𝒱₀ c none) Set.univ (bodyAt2 t) fun _ => iprop((dat2 V c).Φ t.succ ∗ (dat2 V c).owesAt none t.succ
      ∗ owns (c : Thread nD τ) (st2_0 t) fullShare ((dat2 V c).after 0 t)
      ∗ owns (c : Thread nD τ) (st2_1 t) fullShare ((dat2 V c).after 1 t)
      ∗ owns (c : Thread nD τ) (st2_2 t) fullShare ((dat2 V c).after 2 t)
      ∗ owns (c : Thread nD τ) (st2_3 t) fullShare ((dat2 V c).after 3 t))
  iintro ⟨HΦ, Ho, ⟨%d0, H0⟩, ⟨%d1, H1⟩, ⟨%d2, H2⟩, ⟨%d3, H3⟩⟩
  rw [before2_0, before2_1, before2_2, show (dat2 V c).Φ t.succ = (dat2 V c).Φ t.castSucc from rfl,
    show (dat2 V c).owesAt none t.succ = (dat2 V c).owesAt none t.castSucc from rfl]
  iapply (sm_run c (grid2.coords t) (st2_0 t) _ (st2_1 t) _ (st2_2 t) _ (st2_3 t) _ (blk2 V c 0 t) (blk2 V c 1 t) (blk2 V c 2 t) ((dat2 V c).before 3 t d3) Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## What the result holds after the call -/

/-- The 1024 gathered rows of position `j` of the sequences. -/
def rowsOf (j : Fin 50) (X : S51200x128.Idx → Elt F .f32) : Vec F S1024x128 .f32 :=
  fun x => X (fun | 0 => ⟨1024 * j.val + (x 0).val, by have := (x 0).isLt; have : S1024x128.size 0 = 1024 := rfl; have := j.isLt; show _ < 51200; omega⟩ | 1 => x 1)

/-- The call's result: at each position of the sequences, the softmax over the classes of the gathered rows' logits. -/
def out9 (W : Vec F S1000x128 .f32) (X : S51200x128.Idx → Elt F .f32) (b : Vec F S1000x1 .f32) : S50x1000x1024.Idx → Elt F .f32 :=
  fun i => k2_pay2 W (rowsOf (i 0) X) b (fun | 0 => (0 : Fin 1) | 1 => i 1 | 2 => i 2)

theorem ix2_0 (t : Fin cfg2.N) : win2_0.index t = ![t.val, 0] :=
  (by decide +kernel : ∀ t : Fin grid2.N, win2_0.index t = ![t.val, 0]) t
theorem ix2_1 (t : Fin cfg2.N) : win2_1.index t = ![0, 0] :=
  (by decide +kernel : ∀ t : Fin grid2.N, win2_1.index t = ![0, 0]) t
theorem ix2_2 (t : Fin cfg2.N) : win2_2.index t = ![0, 0] :=
  (by decide +kernel : ∀ t : Fin grid2.N, win2_2.index t = ![0, 0]) t
theorem ix2_3 (t : Fin cfg2.N) : win2_3.index t = ![t.val, 0, 0] :=
  (by decide +kernel : ∀ t : Fin grid2.N, win2_3.index t = ![t.val, 0, 0]) t

theorem blk2_1 (c : Dev nD) (t : Fin cfg2.N) : blk2 V c 1 t = (V c main_v7 : S1000x128.Idx → Elt F .f32) := by
  funext x
  refine ((cfg2.win 1).fill_xinj (cfg2.grid.coords t) _ _ x).trans ?_
  show (V c main_v7 : S1000x128.Idx → Elt F .f32) ((win2_1.blk t).view.emb x) = _
  congr 1
  funext a
  apply Fin.ext
  fin_cases a
  · blk_simp [ix2_1]
  · blk_simp [ix2_1]

theorem blk2_2 (c : Dev nD) (t : Fin cfg2.N) : blk2 V c 2 t = (V c main_v8 : S1000x1.Idx → Elt F .f32) := by
  funext x
  refine ((cfg2.win 2).fill_xinj (cfg2.grid.coords t) _ _ x).trans ?_
  show (V c main_v8 : S1000x1.Idx → Elt F .f32) ((win2_2.blk t).view.emb x) = _
  congr 1
  funext a
  apply Fin.ext
  fin_cases a
  · blk_simp [ix2_2]
  · blk_simp [ix2_2]

theorem half_blk (c : Dev nD) (t : Fin cfg2.N) (h : Fin 2) (j : Fin 50) (hj : j.val = 2 * t.val + h.val) :
    half h (blk2 V c 0 t) = rowsOf j (V c main_v6 : S51200x128.Idx → Elt F .f32) := by
  funext x
  unfold half
  refine ((cfg2.win 0).fill_xinj (cfg2.grid.coords t) _ _ _).trans ?_
  show (V c main_v6 : S51200x128.Idx → Elt F .f32) ((win2_0.blk t).view.emb _) = _
  unfold rowsOf
  congr 1
  funext a
  apply Fin.ext
  fin_cases a
  · blk_simp [ix2_0]
    show t.val * 2048 + (1024 * h.val + (x 0).val) = 1024 * j.val + (x 0).val
    omega
  · blk_simp [ix2_0]

theorem final2 (c : Dev nD) : (dat2 V c).arrAt 3 cfg2.N = (out9 (V c main_v7) (V c main_v6) (V c main_v8) : S50x1000x1024.Idx → Elt F .f32) := by
  refine (dat2 V c).arrAt_eq_of_covers 3 _ (by decide +kernel) fun t hf y => ?_
  show soft (blk2 V c 1 t) (blk2 V c 0 t) (blk2 V c 2 t) y = _
  rw [blk2_1, blk2_2]
  have hN : t.val < 25 := lt_of_lt_of_eq t.isLt N_2
  have h0 : ((win2_3.blk t).view.emb y 0 : Nat) = 2 * t.val + (y 0).val := by
    blk_simp [ix2_3]; rw [Nat.mul_comm]
  unfold soft out9
  rw [half_blk V c t (y 0) ((win2_3.blk t).view.emb y 0) h0]
  refine congrArg (k2_pay2 _ _ _) (funext fun a => Fin.ext ?_)
  fin_cases a
  · rfl
  · blk_simp [ix2_3]
  · blk_simp [ix2_3]

end Cert.Proof.Sc

end
-- ==== Proof.HostOps.lean ====
/-
  One operation of @main's host code as a step on its TensorCore thread, from just the arrays that it reads and writes.
-/
module

public import proofs.«01_k».proof.Proof.Region

@[expose] public section

noncomputable section

namespace Cert.Proof.Sc

open Cert.KernelIdeal Cert.KernelIdeal.Gen
open Idealize.ShloMosaic Idealize.ShloMosaic.TcCoe
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

abbrev lc (c : Dev nD) (b : Ref sig .tc) : Loc nD τ sig := (c : Thread nD τ).loc b

abbrev wpM (d : Dev nD) (e : Prog (TpuEff nD τ sig (Elt F) (SparseCore.Sig (ΛP (F := F)) 1) .tc) PUnit.{1}) (Φ : PUnit.{1} → sProp 𝕄) : sProp 𝕄 :=
  wp frame (wpE ((K (F := F)).defs (D (F := F))) 𝒱 (T d) none) Set.univ e Φ

/-- A valuation with the two named entries. -/
def va2 (x y : DevRef τ sig) (A : x.ty.Contents (Elt F)) (B : y.ty.Contents (Elt F)) : Valuation τ sig (Elt F) :=
  Function.update (Function.update (fun _ _ => Classical.arbitrary _) x A) y B

theorem va2_y (x y : DevRef τ sig) (A : x.ty.Contents (Elt F)) (B : y.ty.Contents (Elt F)) : va2 x y A B y = B := Function.update_self _ _ _
theorem va2_x (x y : DevRef τ sig) (h : x ≠ y) (A : x.ty.Contents (Elt F)) (B : y.ty.Contents (Elt F)) : va2 x y A B x = A :=
  (Function.update_of_ne h _ _).trans (Function.update_self _ _ _)

theorem held_two (d : Dev nD) (x y : DevRef τ sig) (h : x ≠ y) (V : Valuation τ sig (Elt F)) :
    (held (T d) {x, y} V : sProp 𝕄) = iprop((((d, x) : Loc nD τ sig) ↦{fullShare} V x) ∗ (((d, y) : Loc nD τ sig) ↦{fullShare} V y)) := by
  unfold held
  rw [SparseCore.bigSep_insert' (by simpa using h), bigSep_singleton]

/-- An operation that reads one array into another. -/
theorem wp_op2 (d : Dev nD) (x y : Ref sig .tc) (op : HloOp τ sig (Elt F)) (hb : op.bufs = {(x : DevRef τ sig), (y : DevRef τ sig)})
    (hw : op.writes = {(y : DevRef τ sig)}) (hxy : (x : DevRef τ sig) ≠ (y : DevRef τ sig))
    (g : x.ty.Contents (Elt F) → y.ty.Contents (Elt F)) (hg : ∀ V, op.result V (y : DevRef τ sig) = g (V (x : DevRef τ sig)))
    (A : Buf (Elt F) (lc d x)) (B : Buf (Elt F) (lc d y)) (Φ : PUnit.{1} → sProp 𝕄) (hf : op.fresh = ∅ := by first | rfl | decide) :
    iprop(boundary (T d) ∗ (lc d x ↦{fullShare} A) ∗ (lc d y ↦{fullShare} B)
        ∗ (iprop(boundary (T d) ∗ (lc d x ↦{fullShare} A) ∗ (lc d y ↦{fullShare} (g A : Buf (Elt F) (lc d y)))) -∗ Φ ⟨⟩))
      ⊢ wpM d (hlo rfl op fun _ => .ret ⟨⟩) Φ := by
  have h := wp_hlo_within (defs := (K (F := F)).defs (D (F := F))) (Name := ℕ) (U := UU) (Ix := HIx 1) 𝒱 (T d) none Set.univ (hp := rfl) (op := op) (k := fun _ => .ret PUnit.unit.{1}) (S := {(x : DevRef τ sig), (y : DevRef τ sig)}) (hb ▸ Finset.Subset.refl _)
    (V := va2 (x : DevRef τ sig) y A B) (Q := Φ) hf
  rw [held_two d _ _ hxy, held_two d _ _ hxy, va2_y, va2_x _ _ hxy, hg, va2_x _ _ hxy,
    op.result_of_not_mem _ (show (x : DevRef τ sig) ∉ op.writes by rw [hw]; simpa using hxy), va2_x _ _ hxy] at h
  iintro ⟨Hb, Hx, Hy, Hk⟩
  iapply h $$ [Hb Hx Hy]
  · isplitl [Hb]; · iexact Hb
    isplitl [Hx]; · iexact Hx
    iexact Hy
  iintro ⟨Hb, Hx, Hy⟩
  rw [wp_ret]; imodintro
  iapply Hk
  isplitl [Hb]; · iexact Hb
  isplitl [Hx]; · iexact Hx
  iexact Hy

/-- An operation that reads nothing. -/
theorem wp_op1 (d : Dev nD) (y : Ref sig .tc) (op : HloOp τ sig (Elt F)) (hb : op.bufs = {(y : DevRef τ sig)})
    (g : y.ty.Contents (Elt F)) (hg : ∀ V, op.result V (y : DevRef τ sig) = g)
    (B : Buf (Elt F) (lc d y)) (Φ : PUnit.{1} → sProp 𝕄) (hf : op.fresh = ∅ := by first | rfl | decide) :
    iprop(boundary (T d) ∗ (lc d y ↦{fullShare} B)
        ∗ (iprop(boundary (T d) ∗ (lc d y ↦{fullShare} (g : Buf (Elt F) (lc d y)))) -∗ Φ ⟨⟩))
      ⊢ wpM d (hlo rfl op fun _ => .ret ⟨⟩) Φ := by
  have h := wp_hlo_within (defs := (K (F := F)).defs (D (F := F))) (Name := ℕ) (U := UU) (Ix := HIx 1) 𝒱 (T d) none Set.univ (hp := rfl) (op := op) (k := fun _ => .ret PUnit.unit.{1}) (S := {(y : DevRef τ sig)}) (hb ▸ Finset.Subset.refl _)
    (V := va2 (y : DevRef τ sig) (y : DevRef τ sig) B B) (Q := Φ) hf
  unfold held at h
  rw [bigSep_singleton, bigSep_singleton, va2_y, hg] at h
  iintro ⟨Hb, Hy, Hk⟩
  iapply h $$ [Hb Hy]
  · isplitl [Hb]; · iexact Hb
    iexact Hy
  iintro ⟨Hb, Hy⟩
  rw [wp_ret]; imodintro
  iapply Hk
  isplitl [Hb]; · iexact Hb
  iexact Hy

/-- A valuation with the three named entries. -/
def va3 (x z y : DevRef τ sig) (A : x.ty.Contents (Elt F)) (C : z.ty.Contents (Elt F)) (B : y.ty.Contents (Elt F)) : Valuation τ sig (Elt F) :=
  Function.update (va2 x z A C) y B

theorem held_three (d : Dev nD) (x z y : DevRef τ sig) (h : x ≠ z) (h' : x ≠ y) (h'' : z ≠ y) (V : Valuation τ sig (Elt F)) :
    (held (T d) {x, z, y} V : sProp 𝕄) = iprop((((d, x) : Loc nD τ sig) ↦{fullShare} V x) ∗ (((d, z) : Loc nD τ sig) ↦{fullShare} V z) ∗ (((d, y) : Loc nD τ sig) ↦{fullShare} V y)) := by
  unfold held
  rw [SparseCore.bigSep_insert' (by simp [h, h']), SparseCore.bigSep_insert' (by simpa using h''), bigSep_singleton]

/-- An operation that reads two arrays into a third. -/
theorem wp_op3 (d : Dev nD) (x z y : Ref sig .tc) (op : HloOp τ sig (Elt F)) (hb : op.bufs = {(x : DevRef τ sig), (z : DevRef τ sig), (y : DevRef τ sig)})
    (hw : op.writes = {(y : DevRef τ sig)}) (hxz : (x : DevRef τ sig) ≠ (z : DevRef τ sig)) (hxy : (x : DevRef τ sig) ≠ (y : DevRef τ sig)) (hzy : (z : DevRef τ sig) ≠ (y : DevRef τ sig))
    (g : x.ty.Contents (Elt F) → z.ty.Contents (Elt F) → y.ty.Contents (Elt F)) (hg : ∀ V, op.result V (y : DevRef τ sig) = g (V (x : DevRef τ sig)) (V (z : DevRef τ sig)))
    (A : Buf (Elt F) (lc d x)) (C : Buf (Elt F) (lc d z)) (B : Buf (Elt F) (lc d y)) (Φ : PUnit.{1} → sProp 𝕄) (hf : op.fresh = ∅ := by first | rfl | decide) :
    iprop(boundary (T d) ∗ (lc d x ↦{fullShare} A) ∗ (lc d z ↦{fullShare} C) ∗ (lc d y ↦{fullShare} B)
        ∗ (iprop(boundary (T d) ∗ (lc d x ↦{fullShare} A) ∗ (lc d z ↦{fullShare} C) ∗ (lc d y ↦{fullShare} (g A C : Buf (Elt F) (lc d y)))) -∗ Φ ⟨⟩))
      ⊢ wpM d (hlo rfl op fun _ => .ret ⟨⟩) Φ := by
  have h := wp_hlo_within (defs := (K (F := F)).defs (D (F := F))) (Name := ℕ) (U := UU) (Ix := HIx 1) 𝒱 (T d) none Set.univ (hp := rfl) (op := op) (k := fun _ => .ret PUnit.unit.{1})
    (S := {(x : DevRef τ sig), (z : DevRef τ sig), (y : DevRef τ sig)}) (hb ▸ Finset.Subset.refl _) (V := va3 (x : DevRef τ sig) z y A C B) (Q := Φ) hf
  have h1 : va3 (x : DevRef τ sig) z y A C B x = A := (Function.update_of_ne hxy _ _).trans (va2_x _ _ hxz _ _)
  have h2 : va3 (x : DevRef τ sig) z y A C B z = C := (Function.update_of_ne hzy _ _).trans (va2_y _ _ _ _)
  have h3 : va3 (x : DevRef τ sig) z y A C B y = B := Function.update_self _ _ _
  rw [held_three d _ _ _ hxz hxy hzy, held_three d _ _ _ hxz hxy hzy, hg,
    op.result_of_not_mem _ (show (x : DevRef τ sig) ∉ op.writes by rw [hw]; simpa using hxy),
    op.result_of_not_mem _ (show (z : DevRef τ sig) ∉ op.writes by rw [hw]; simpa using hzy), h1, h2, h3] at h
  iintro ⟨Hb, Hx, Hz, Hy, Hk⟩
  iapply h $$ [Hb Hx Hz Hy]
  · isplitl [Hb]; · iexact Hb
    isplitl [Hx]; · iexact Hx
    isplitl [Hz]; · iexact Hz
    iexact Hy
  iintro ⟨Hb, Hx, Hz, Hy⟩
  rw [wp_ret]; imodintro
  iapply Hk
  isplitl [Hb]; · iexact Hb
  isplitl [Hx]; · iexact Hx
  isplitl [Hz]; · iexact Hz
  iexact Hy

end Cert.Proof.Sc

end
-- ==== Proof.Calls.lean ====
/-
  The two TensorCore calls of @main, as steps on the TensorCore thread: from a call's arrays and the handshakes' debts to its
  result. Of the table only what its row blocks may hold is said (`tabP`); the probabilities are known exactly (`out9`).
-/
module

public import proofs.«01_k».proof.Proof.Table
public import proofs.«01_k».proof.Proof.Soft
public import proofs.«01_k».proof.Proof.HostOps

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window WinFacts)

variable {F : FTy → Type} [FloatOps F] [∀ e, Nonempty (Elt F e)]

local notation "𝕄" => MT nD τ sig (HIx 1) (Elt F) ℕ UU ℕ

/-- The data of a pipeline that the call at hand does not run. -/
def rdIdle {p : Fin 2} (c : Dev nD) : RDat τ (Elt F) (HIx 1) ℕ UU ℕ (Pipeline.pin (pcfgs (F := F)) adm p) c :=
  (show Dat τ (Elt F) (HIx 1) ℕ UU ℕ (Pipeline.pin (pcfgs (F := F)) adm p) c from
    { A := fun _ _ => Classical.arbitrary _, after := fun _ _ => fun _ => Classical.arbitrary _, Φ := fun _ => BI.emp,
      q := fun _ => fullShare, owed := fun _ => 0 }).toR

variable (V : (c : Dev nD) → (b : Ref sig .tc) → Buf (Elt F) ((c : Thread nD τ).loc b))

set_option backward.isDefEq.respectTransparency.types false in
def rd0 : (p : Fin 2) → (c : Dev nD) → RDat τ (Elt F) (HIx 1) ℕ UU ℕ (Pipeline.pin (pcfgs (F := F)) adm p) c
  | ⟨0, _⟩ => fun c => (dat0 V c).toRRel fgt0 (Rl0 V c)
  | ⟨1, _⟩ => fun c => rdIdle (p := 1) c

set_option backward.isDefEq.respectTransparency.types false in
def rd2 : (p : Fin 2) → (c : Dev nD) → RDat τ (Elt F) (HIx 1) ℕ UU ℕ (Pipeline.pin (pcfgs (F := F)) adm p) c
  | ⟨0, _⟩ => fun c => rdIdle (p := 0) c
  | ⟨1, _⟩ => fun c => (dat2 V c).toRRel (fun _ => false) (fun _ _ _ => True)

set_option backward.isDefEq.respectTransparency.types false in
theorem rd0_Φ (c : Dev nD) (t) : (rd0 V 0 c).Φ t = Pipeline.scopedRest (Ix := HIx 1) (Name := ℕ) (U := UU) (Lvl := ℕ) (Val := Elt F) (Pipeline.pin (pcfgs (F := F)) adm 0).spec c :=
  show Pipeline.scopedRest (Ix := HIx 1) (Name := ℕ) (U := UU) (Lvl := ℕ) (Val := Elt F) spec0 c = _ from rfl

set_option backward.isDefEq.respectTransparency.types false in
theorem rd2_Φ (c : Dev nD) (t) : (rd2 V 1 c).Φ t = Pipeline.scopedRest (Ix := HIx 1) (Name := ℕ) (U := UU) (Lvl := ℕ) (Val := Elt F) (Pipeline.pin (pcfgs (F := F)) adm 1).spec c :=
  show Pipeline.scopedRest (Ix := HIx 1) (Name := ℕ) (U := UU) (Lvl := ℕ) (Val := Elt F) spec2 c = _ from rfl

set_option backward.isDefEq.respectTransparency.types false in
def reg0 : RDat.RegionSeg (pcfgs (F := F)) adm (rd0 V) none defs₀ 𝒱₀ (K (F := F)).L (K (F := F)).lev 0 :=
  reg (rd0 V) 0 0 V launch0 (fun c => (body0 V c).toRRel) (rd0_Φ V) (fun _ _ => rfl) (fun _ _ => rfl)
    (fun c => (dat0 V c).share_full fun _ => rfl) (fun _ _ => rfl)

set_option backward.isDefEq.respectTransparency.types false in
def reg2 : RDat.RegionSeg (pcfgs (F := F)) adm (rd2 V) none defs₀ 𝒱₀ (K (F := F)).L (K (F := F)).lev 1 :=
  reg (rd2 V) 1 1 V launch2 (fun c => (body2 V c).toRRel) (rd2_Φ V) (fun _ _ => rfl) (fun _ _ => rfl)
    (fun c => (dat2 V c).share_full fun _ => rfl) (fun _ _ => rfl)

set_option backward.isDefEq.respectTransparency.types false in
theorem pre0 (c : Dev nD) : (reg0 V).pre c = iprop(((lc c main_v0 ↦{fullShare} V c main_v0) ∗ (lc c main_arg5 ↦{fullShare} V c main_arg5)
    ∗ (lc c main_v1 ↦{fullShare} V c main_v1) ∗ (lc c main_v2 ↦{fullShare} V c main_v2)) ∗ ow (F := F) c 0) :=
  congrArg (fun A : sProp 𝕄 => iprop(A ∗ ow (F := F) c 0)) (bigSep_W0 fun w => (lc c (Pipeline.arrRef spec0 w) ↦{fullShare} V c (Pipeline.arrRef spec0 w)))

set_option backward.isDefEq.respectTransparency.types false in
theorem pre2 (c : Dev nD) : (reg2 V).pre c = iprop(((lc c main_v6 ↦{fullShare} V c main_v6) ∗ (lc c main_v7 ↦{fullShare} V c main_v7)
    ∗ (lc c main_v8 ↦{fullShare} V c main_v8) ∗ (lc c main_v9 ↦{fullShare} V c main_v9)) ∗ ow (F := F) c 1) :=
  congrArg (fun A : sProp 𝕄 => iprop(A ∗ ow (F := F) c 1)) (bigSep_W2 fun w => (lc c (Pipeline.arrRef spec2 w) ↦{fullShare} V c (Pipeline.arrRef spec2 w)))

set_option backward.isDefEq.respectTransparency.types false in
theorem post0 (c : Dev nD) : (reg0 V).post c = iprop((
    (∃ X, ⌜((dat0 V c).toRRel fgt0 (Rl0 V c)).ArrAt 0 cfg0.N X⌝ ∗ (lc c main_v0 ↦{fullShare} X))
    ∗ (∃ X, ⌜((dat0 V c).toRRel fgt0 (Rl0 V c)).ArrAt 1 cfg0.N X⌝ ∗ (lc c main_arg5 ↦{fullShare} X))
    ∗ (∃ X, ⌜((dat0 V c).toRRel fgt0 (Rl0 V c)).ArrAt 2 cfg0.N X⌝ ∗ (lc c main_v1 ↦{fullShare} X))
    ∗ (∃ X, ⌜((dat0 V c).toRRel fgt0 (Rl0 V c)).ArrAt 3 cfg0.N X⌝ ∗ (lc c main_v2 ↦{fullShare} X))) ∗ ow (F := F) c 0) :=
  congrArg (fun A : sProp 𝕄 => iprop(A ∗ ow (F := F) c 0)) (bigSep_W0 fun w => iprop(∃ X, ⌜((dat0 V c).toRRel fgt0 (Rl0 V c)).ArrAt w cfg0.N X⌝ ∗ (lc c (Pipeline.arrRef spec0 w) ↦{fullShare} X)))

set_option backward.isDefEq.respectTransparency.types false in
theorem post2 (c : Dev nD) : (reg2 V).post c = iprop((
    (∃ X, ⌜(dat2 V c).toR.ArrAt 0 cfg2.N X⌝ ∗ (lc c main_v6 ↦{fullShare} X))
    ∗ (∃ X, ⌜(dat2 V c).toR.ArrAt 1 cfg2.N X⌝ ∗ (lc c main_v7 ↦{fullShare} X))
    ∗ (∃ X, ⌜(dat2 V c).toR.ArrAt 2 cfg2.N X⌝ ∗ (lc c main_v8 ↦{fullShare} X))
    ∗ (∃ X, ⌜(dat2 V c).toR.ArrAt 3 cfg2.N X⌝ ∗ (lc c main_v9 ↦{fullShare} X))) ∗ ow (F := F) c 1) :=
  congrArg (fun A : sProp 𝕄 => iprop(A ∗ ow (F := F) c 1)) (bigSep_W2 fun w => iprop(∃ X, ⌜(dat2 V c).toR.ArrAt w cfg2.N X⌝ ∗ (lc c (Pipeline.arrRef spec2 w) ↦{fullShare} X)))

/-- The ghost state that a call's pipeline is launched with. -/
abbrev gh (p : Fin 2) (c : Dev nD) : sProp 𝕄 :=
  iprop(Pipeline.cellsGhost (Pipeline.pin (pcfgs (F := F)) adm) EP p c ∗ Pipeline.toksInit (Pipeline.pin (pcfgs (F := F)) adm) EP p c)

theorem lift_entry (p : Fin 2) : SparseCore.liftProg (Q := 1) (Prog.lift (.customCall (Pipeline.entry p) ()) : Prog (TpuEff nD τ sig (Elt F) (ΛP (F := F)) .tc) PUnit)
  = (Prog.lift (.customCall (SparseCore.inner (Pipeline.entry p)) ()) : Prog (TpuEff nD τ sig (Elt F) (SparseCore.Sig (ΛP (F := F)) 1) .tc) PUnit) := rfl

theorem pin_inj : Function.Injective (Pipeline.cellOf (nD := nD) (τ := τ) (Pipeline.pin (pcfgs (F := F)) adm)) := cellOf_inj

set_option backward.isDefEq.respectTransparency.types false in
/-- The table's call. -/
theorem wp_tab (c : Dev nD) (Φ : PUnit.{1} → sProp 𝕄) :
    iprop(levAts (K (F := F)).L (K (F := F)).lev ∗ boundary (T c) ∗ ow (F := F) c 0 ∗ gh 0 c
        ∗ (lc c main_v0 ↦{fullShare} V c main_v0) ∗ (lc c main_arg5 ↦{fullShare} V c main_arg5) ∗ (lc c main_v1 ↦{fullShare} V c main_v1) ∗ (lc c main_v2 ↦{fullShare} V c main_v2)
        ∗ (iprop(boundary (T c) ∗ ow (F := F) c 0 ∗ (lc c main_arg5 ↦{fullShare} V c main_arg5)
            ∗ ∃ X, ⌜∀ i, tabP (V c main_v0) (V c main_arg5) (V c main_v1) i (X i)⌝ ∗ (lc c main_v2 ↦{fullShare} X)) -∗ Φ ⟨⟩))
      ⊢ wp frame (wpE ((K (F := F)).defs (D (F := F))) 𝒱 (T c) none) Set.univ (Prog.lift (.customCall (SparseCore.inner (Pipeline.entry 0)) ())) Φ := by
  have g := (K (F := F)).wp_liftProg (D (F := F)) 𝒱 (T c) Set.univ none (Prog.lift (.customCall (Pipeline.entry 0) ())) Φ
  rw [lift_entry] at g
  have h := RDat.RegionSeg.wp (pcfgs (F := F)) adm (rd0 V) none pin_inj EP defs₀ 𝒱₀ (K (F := F)).L (K (F := F)).lev (reg0 V) c none (fun _ h => nomatch h) (α := PUnit.{1}) (fun _ => .ret ⟨⟩) Φ
  rw [pre0, post0] at h
  iintro ⟨Hl, Hb, HO, ⟨Hg, Ht⟩, H0, H1, H2, H3, Hk⟩
  iapply g
  iapply h
  isplitl [Hk]
  · iintro ⟨Hb, ⟨-, ⟨%X1, %h1, H1⟩, -, ⟨%X3, %h3, H3⟩⟩, HO⟩
    rw [wp_ret]; imodintro
    iapply Hk
    isplitl [Hb]; · iexact Hb
    isplitl [HO]; · iexact HO
    isplitl [H1]
    · rw [show X1 = V c main_arg5 from (congrFun (RDat.ArrAt_in _ 1 rfl cfg0.N) X1).mp h1]; iexact H1
    iexists X3
    isplitr; · ipureintro; exact tab_of_arrAt V c X3 h3
    iexact H3
  isplitl [Hb]; · iexact Hb
  isplitl [H0 H1 H2 H3 HO]
  · isplitl [H0 H1 H2 H3]
    · isplitl [H0]; · iexact H0
      isplitl [H1]; · iexact H1
      isplitl [H2]; · iexact H2
      iexact H3
    iexact HO
  isplitl [Hl]; · iexact Hl
  isplitl [Hg]; · iexact Hg
  iexact Ht

set_option backward.isDefEq.respectTransparency.types false in
/-- The probabilities' call. -/
theorem wp_soft (c : Dev nD) (Φ : PUnit.{1} → sProp 𝕄) :
    iprop(levAts (K (F := F)).L (K (F := F)).lev ∗ boundary (T c) ∗ ow (F := F) c 1 ∗ gh 1 c
        ∗ (lc c main_v6 ↦{fullShare} V c main_v6) ∗ (lc c main_v7 ↦{fullShare} V c main_v7) ∗ (lc c main_v8 ↦{fullShare} V c main_v8) ∗ (lc c main_v9 ↦{fullShare} V c main_v9)
        ∗ (iprop(boundary (T c) ∗ ow (F := F) c 1 ∗ (lc c main_v9 ↦{fullShare} out9 (V c main_v7) (V c main_v6) (V c main_v8))) -∗ Φ ⟨⟩))
      ⊢ wp frame (wpE ((K (F := F)).defs (D (F := F))) 𝒱 (T c) none) Set.univ (Prog.lift (.customCall (SparseCore.inner (Pipeline.entry 1)) ())) Φ := by
  have g := (K (F := F)).wp_liftProg (D (F := F)) 𝒱 (T c) Set.univ none (Prog.lift (.customCall (Pipeline.entry 1) ())) Φ
  rw [lift_entry] at g
  have h := RDat.RegionSeg.wp (pcfgs (F := F)) adm (rd2 V) none pin_inj EP defs₀ 𝒱₀ (K (F := F)).L (K (F := F)).lev (reg2 V) c none (fun _ h => nomatch h) (α := PUnit.{1}) (fun _ => .ret ⟨⟩) Φ
  rw [pre2, post2] at h
  iintro ⟨Hl, Hb, HO, ⟨Hg, Ht⟩, H0, H1, H2, H3, Hk⟩
  iapply g
  iapply h
  isplitl [Hk]
  · iintro ⟨Hb, ⟨-, -, -, ⟨%X3, %h3, H3⟩⟩, HO⟩
    rw [wp_ret]; imodintro
    iapply Hk
    isplitl [Hb]; · iexact Hb
    isplitl [HO]; · iexact HO
    rw [show X3 = out9 (V c main_v7) (V c main_v6) (V c main_v8) from ((dat2 V c).toR_arrAt 3 cfg2.N X3 h3).trans (final2 V c)]
    iexact H3
  isplitl [Hb]; · iexact Hb
  isplitl [H0 H1 H2 H3 HO]
  · isplitl [H0 H1 H2 H3]
    · isplitl [H0]; · iexact H0
      isplitl [H1]; · iexact H1
      isplitl [H2]; · iexact H2
      iexact H3
    iexact HO
  isplitl [Hl]; · iexact Hl
  isplitl [Hg]; · iexact Hg
  iexact Ht

/-- A valuation with the four named entries. -/
def va4 (x z u y : Ref sig .tc) (A : x.ty.Contents (Elt F)) (C : z.ty.Contents (Elt F)) (E : u.ty.Contents (Elt F)) (B : y.ty.Contents (Elt F)) :
    (c : Dev nD) → (b : Ref sig .tc) → Buf (Elt F) ((c : Thread nD τ).loc b) :=
  fun _ => Function.update (Function.update (Function.update (Function.update (fun _ _ => Classical.arbitrary _) x A) z C) u E) y B

theorem va4_y (x z u y : Ref sig .tc) (A : x.ty.Contents (Elt F)) (C : z.ty.Contents (Elt F)) (E : u.ty.Contents (Elt F)) (B : y.ty.Contents (Elt F)) (c : Dev nD) :
    va4 x z u y A C E B c y = B := Function.update_self _ _ _
theorem va4_u (x z u y : Ref sig .tc) (h : u ≠ y) (A : x.ty.Contents (Elt F)) (C : z.ty.Contents (Elt F)) (E : u.ty.Contents (Elt F)) (B : y.ty.Contents (Elt F)) (c : Dev nD) :
    va4 x z u y A C E B c u = E := (Function.update_of_ne h _ _).trans (Function.update_self _ _ _)
theorem va4_z (x z u y : Ref sig .tc) (h : z ≠ y) (h' : z ≠ u) (A : x.ty.Contents (Elt F)) (C : z.ty.Contents (Elt F)) (E : u.ty.Contents (Elt F)) (B : y.ty.Contents (Elt F)) (c : Dev nD) :
    va4 x z u y A C E B c z = C := (Function.update_of_ne h _ _).trans ((Function.update_of_ne h' _ _).trans (Function.update_self _ _ _))
theorem va4_x (x z u y : Ref sig .tc) (h : x ≠ y) (h' : x ≠ u) (h'' : x ≠ z) (A : x.ty.Contents (Elt F)) (C : z.ty.Contents (Elt F)) (E : u.ty.Contents (Elt F)) (B : y.ty.Contents (Elt F)) (c : Dev nD) :
    va4 x z u y A C E B c x = A :=
  (Function.update_of_ne h _ _).trans ((Function.update_of_ne h' _ _).trans ((Function.update_of_ne h'' _ _).trans (Function.update_self _ _ _)))

/-- The table's call, from its arrays' contents. -/
theorem wp_tab' (c : Dev nD) (A : S64x100000.Idx → Elt F .f32) (W : Vec F S64x128 .f32) (b : Vec F S1x128 .f32) (o : S100000x128.Idx → Elt F .f32) (Φ : PUnit.{1} → sProp 𝕄) :
    iprop(levAts (K (F := F)).L (K (F := F)).lev ∗ boundary (T c) ∗ ow (F := F) c 0 ∗ gh 0 c
        ∗ (lc c main_v0 ↦{fullShare} A) ∗ (lc c main_arg5 ↦{fullShare} W) ∗ (lc c main_v1 ↦{fullShare} b) ∗ (lc c main_v2 ↦{fullShare} o)
        ∗ (iprop(boundary (T c) ∗ ow (F := F) c 0 ∗ (lc c main_arg5 ↦{fullShare} W)
            ∗ ∃ X : S100000x128.Idx → Elt F .f32, ⌜∀ i, tabP A W b i (X i)⌝ ∗ (lc c main_v2 ↦{fullShare} X)) -∗ Φ ⟨⟩))
      ⊢ wpM c (Prog.lift (.customCall (SparseCore.inner (Pipeline.entry 0)) ())) Φ := by
  have h := wp_tab (va4 main_v0 main_arg5 main_v1 main_v2 A W b o) c Φ
  rw [va4_x _ _ _ _ (by decide) (by decide) (by decide), va4_z _ _ _ _ (by decide) (by decide), va4_u _ _ _ _ (by decide), va4_y] at h
  exact h

/-- The probabilities' call, from its arrays' contents. -/
theorem wp_soft' (c : Dev nD) (X : S51200x128.Idx → Elt F .f32) (W : Vec F S1000x128 .f32) (b : Vec F S1000x1 .f32) (o : S50x1000x1024.Idx → Elt F .f32) (Φ : PUnit.{1} → sProp 𝕄) :
    iprop(levAts (K (F := F)).L (K (F := F)).lev ∗ boundary (T c) ∗ ow (F := F) c 1 ∗ gh 1 c
        ∗ (lc c main_v6 ↦{fullShare} X) ∗ (lc c main_v7 ↦{fullShare} W) ∗ (lc c main_v8 ↦{fullShare} b) ∗ (lc c main_v9 ↦{fullShare} o)
        ∗ (iprop(boundary (T c) ∗ ow (F := F) c 1 ∗ (lc c main_v9 ↦{fullShare} (out9 W X b : Buf (Elt F) (lc c main_v9)))) -∗ Φ ⟨⟩))
      ⊢ wpM c (Prog.lift (.customCall (SparseCore.inner (Pipeline.entry 1)) ())) Φ := by
  have h := wp_soft (va4 main_v6 main_v7 main_v8 main_v9 X W b o) c Φ
  rw [va4_x _ _ _ _ (by decide) (by decide) (by decide), va4_z _ _ _ _ (by decide) (by decide), va4_u _ _ _ _ (by decide), va4_y] at h
  exact h

end Cert.Proof.Sc

end
-- ==== Proof.Main.lean ====
/-
  The program's run: the launch's resources, @main on the TensorCore, and what it leaves. The arguments stay, and the result is
  the probabilities of rows that some table allowed by the first call holds at the indices.
-/
module

public import proofs.«01_k».proof.Proof.Deal
public import proofs.«01_k».proof.Proof.Calls

@[expose] public section

noncomputable section

namespace Cert.Proof.Sc

open Cert.KernelIdeal Cert.KernelIdeal.Gen
open Idealize.ShloMosaic Idealize.ShloMosaic.TcCoe
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the host code makes of the arguments -/

def embT (d : Dev nD) : S64x100000.Idx → Elt F .f32 :=
  transpose S64x100000 [1, 0] (m (lc d main_arg2) : S100000x64.Idx → Elt F .f32) transposes_S100000x64_S64x100000_1_0
def b2r (d : Dev nD) : Vec F S1x128 .f32 :=
  shapeCast S1x128 (m (lc d main_arg6) : S128.Idx → Elt F .f32) shapeCasts_S128_S1x128
def w2 (d : Dev nD) : Vec F S64x128 .f32 := (m (lc d main_arg5) : S64x128.Idx → Elt F .f32)
def seqT (d : Dev nD) : S50x1024.Idx → Elt F .i32 :=
  transpose S50x1024 [1, 0] (m (lc d main_arg1) : S1024x50.Idx → Elt F .i32) transposes_S1024x50_S50x1024_1_0
def seqF (d : Dev nD) : S51200.Idx → Elt F .i32 := shapeCast S51200 (seqT m d) shapeCasts_S50x1024_S51200
def idxs (d : Dev nD) : S52096.Idx → Elt F .i32 :=
  pad S52096 ![0] ![896] ![0] (seqF m d) (constantI S_ 32 0#32 : S_.Idx → Elt F .i32) pads_S51200_S52096_08960 h_S_
def woT (d : Dev nD) : Vec F S1000x128 .f32 :=
  transpose S1000x128 [1, 0] (m (lc d main_arg7) : S128x1000.Idx → Elt F .f32) transposes_S128x1000_S1000x128_1_0
def bor (d : Dev nD) : Vec F S1000x1 .f32 :=
  shapeCast S1000x1 (m (lc d main_arg8) : S1000.Idx → Elt F .f32) shapeCasts_S1000_S1000x1
def res (d : Dev nD) (f : S51200x128.Idx → Elt F .f32) : S1024x50x1000.Idx → Elt F .f32 :=
  transpose S1024x50x1000 [2, 0, 1] (out9 (woT m d) f (bor m d)) transposes_S50x1000x1024_S1024x50x1000_2_0_1

/-- A table that the first call may leave. -/
def tabOK (d : Dev nD) (X : S100000x128.Idx → Elt F .f32) : Prop := ∀ i, tabP (embT m d) (w2 m d) (b2r m d) i (X i)

/-- What the proof asks of the launch memory: every index names a row. -/
def InRange : Prop := ∀ d x, (idxs m d x : BitVec 32).toNat < 100000

/-- A result that the run may leave. -/
def resOK (h : InRange m) (d : Dev nD) (r : S1024x50x1000.Idx → Elt F .f32) : Prop :=
  ∃ f, (∀ x, rowOK (idxs m d) (h d) (tabOK m d) x (f x)) ∧ r = res m d f

def out0 (d : Dev nD) : S51200x128.Idx → Elt F .f32 := m (lc d main_v6)

abbrev PP (h : InRange m) := P (idxs m) h (tabOK m) (out0 m)

/-! ## The launch -/

abbrev ghs (d : Dev nD) : sProp 𝕄 := iprop(gh (F := F) 0 d ∗ gh (F := F) 1 d)

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem two_emb (a : UP) (b : Counters) : (BI.own ((embR : Emb (UP × Counters) 𝕄) (a, b))) ⊢ (BI.own (EP a) : sProp 𝕄) := by
  iintro H
  ihave H := (own_pair_emb (embR : Emb (UP × Counters) 𝕄) a b) $$ H
  icases H with ⟨H, -⟩
  iexact H

theorem ghs_intro : (BI.own (EP (initOf (Pipeline.cells (Pipeline.pin (pcfgs (F := F)) adm) pin_inj) (Pipeline.launchToks (Pipeline.pin (pcfgs (F := F)) adm) pin_inj))) : sProp 𝕄)
    ⊢ |==> bigSep Finset.univ fun d : Dev nD => ghs d := by
  iintro H
  imod (Pipeline.fund_ghost (Pipeline.pin (pcfgs (F := F)) adm) EP pin_inj) $$ H with ⟨H1, H2⟩
  imodintro
  have h : (bigSep Finset.univ fun d : Dev nD => ghs (F := F) d : sProp 𝕄)
      = iprop((bigSep Finset.univ fun c : Dev nD => bigSep Finset.univ fun p : Fin 2 => Pipeline.cellsGhost (Pipeline.pin (pcfgs (F := F)) adm) EP p c)
          ∗ (bigSep Finset.univ fun c : Dev nD => bigSep Finset.univ fun p : Fin 2 => (Pipeline.toksInit (Pipeline.pin (pcfgs (F := F)) adm) EP p c : sProp 𝕄))) := by
    rw [← bigSep_sep']
    refine bigSep_congr fun d _ => ?_
    rw [← bigSep_sep']
    exact (bigSep_univ_eq_bigSepL [(0 : Fin 2), (1 : Fin 2)] (by decide) (by decide) fun p => gh (F := F) p d).symm
  rw [h]
  isplitl [H1]; · iexact H1
  iexact H2

theorem hu₀ (h : InRange m) : (ownU (u₀ (F := F)) : sProp 𝕄)
    ⊢ |={Set.univ}=> iprop(BI.own (EH (initOf (K (F := F)).hsCells (K (F := F)).hsToks)) ∗ (bigSep Finset.univ fun d : Dev nD => ghs d)
        ∗ bigSep Finset.univ fun thr : Thread nD τ => bigSep Finset.univ fun q : Fin 1 => (PP m h).x q thr) := by
  unfold u₀
  iintro Hu
  ihave H := (ownU_pair _ _) $$ Hu
  icases H with ⟨HH, HR⟩
  ihave HP := (two_emb (F := F) _ _) $$ HR
  imod (ghs_intro (F := F)) $$ HP with HG
  imodintro
  isplitl [HH]; · iexact HH
  isplitl [HG]; · iexact HG
  rw [show (bigSep Finset.univ fun thr : Thread nD τ => bigSep Finset.univ fun q : Fin 1 => (PP m h).x q thr) = (iprop(emp) : sProp 𝕄)
    from (bigSep_congr fun _ _ => bigSep_univ_of_subsingleton (0 : Fin 1)).trans (bigSep_emp_const _)]
  iempintro

/-! ## The TensorCore's arrays -/

abbrev arrays : List (Ref sig .tc) :=
  [main_arg0, main_arg1, main_arg2, main_arg3, main_arg4, main_arg5, main_arg6, main_arg7, main_arg8, main_v0, main_v1, main_v2, main_v3, main_v4,
    main_c, main_call0_v0, main_v5, main_v6, main_v7, main_v8, main_v9, main_v10]

theorem bufs_eq (d : Dev nD) (W : (b : Ref sig .tc) → Buf (Elt F) (lc d b)) :
    (unscopedBufs d W : sProp 𝕄) = iprop((lc d main_arg0 ↦{fullShare} W main_arg0) ∗ (lc d main_arg1 ↦{fullShare} W main_arg1) ∗ (lc d main_arg2 ↦{fullShare} W main_arg2) ∗ (lc d main_arg3 ↦{fullShare} W main_arg3) ∗ (lc d main_arg4 ↦{fullShare} W main_arg4) ∗ (lc d main_arg5 ↦{fullShare} W main_arg5) ∗ (lc d main_arg6 ↦{fullShare} W main_arg6) ∗ (lc d main_arg7 ↦{fullShare} W main_arg7) ∗ (lc d main_arg8 ↦{fullShare} W main_arg8) ∗ (lc d main_v0 ↦{fullShare} W main_v0) ∗ (lc d main_v1 ↦{fullShare} W main_v1) ∗ (lc d main_v2 ↦{fullShare} W main_v2) ∗ (lc d main_v3 ↦{fullShare} W main_v3) ∗ (lc d main_v4 ↦{fullShare} W main_v4) ∗ (lc d main_c ↦{fullShare} W main_c) ∗ (lc d main_call0_v0 ↦{fullShare} W main_call0_v0) ∗ (lc d main_v5 ↦{fullShare} W main_v5) ∗ (lc d main_v6 ↦{fullShare} W main_v6) ∗ (lc d main_v7 ↦{fullShare} W main_v7) ∗ (lc d main_v8 ↦{fullShare} W main_v8) ∗ (lc d main_v9 ↦{fullShare} W main_v9) ∗ (lc d main_v10 ↦{fullShare} W main_v10)) := by
  unfold unscopedBufs
  exact bigSep_eq_bigSepL_of_eq arrays (by decide) (by decide) _

/-- The handshakes' state of the TensorCore: what it owes, and the rest. -/
theorem st_split (d : Dev nD) (n : ℕ) : ∃ R : sProp 𝕄, (K (F := F)).tcSt EH d n = iprop(ow (F := F) d n ∗ R) := ⟨_, rfl⟩

/-- What @main leaves the claims. -/
def FIN (h : InRange m) (d : Dev nD) : sProp 𝕄 :=
  iprop(((lc d main_arg0 ↦{fullShare} m (lc d main_arg0)) ∗ (lc d main_arg1 ↦{fullShare} m (lc d main_arg1)) ∗ (lc d main_arg2 ↦{fullShare} m (lc d main_arg2)) ∗ (lc d main_arg3 ↦{fullShare} m (lc d main_arg3)) ∗ (lc d main_arg4 ↦{fullShare} m (lc d main_arg4)) ∗ (lc d main_arg5 ↦{fullShare} m (lc d main_arg5)) ∗ (lc d main_arg6 ↦{fullShare} m (lc d main_arg6)) ∗ (lc d main_arg7 ↦{fullShare} m (lc d main_arg7)) ∗ (lc d main_arg8 ↦{fullShare} m (lc d main_arg8)))
    ∗ ∃ r : S1024x50x1000.Idx → Elt F .f32, ⌜resOK m h d r⌝ ∗ (lc d main_v10 ↦{fullShare} r))

/-! ## @main -/

set_option maxRecDepth 16384 in
theorem hmain (h : InRange m) (κ : GSem nD τ sig → ℕ) (d : Dev nD) :
    iprop((K (F := F)).ctx EH (PP m h) κ ∗ (K (F := F)).tcSt EH d 0 ∗ (K (F := F)).tcRes m ρ d ∗ ghs d)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [bufs_eq]
  obtain ⟨R0, hR0⟩ := st_split (F := F) d 0
  obtain ⟨R1, hR1⟩ := st_split (F := F) d 1
  simp only [main, fn_pad.body, wp_bind, wp_pure]
  iintro ⟨#Hctx, Hst, ⟨Hb, ⟨A0, A1, A2, A3, A4, A5, A6, A7, A8, V0, V1, V2, V3, V4, Cc, Cp, V5, V6, V7, V8, V9, V10⟩, Hts, -⟩, ⟨G0, G1⟩⟩
  ihave #Hlev := (SparseCore.Cfg.ctx_levAts (K := K (F := F)) κ) $$ Hctx
  iapply (wp_op2 d main_arg2 main_v0 _ rfl rfl (by decide) _ (fun V => StableHlo.unary_result _ _ _ _ _ V) (m (lc d main_arg2)) (m (lc d main_v0)))
  isplitl [Hb]; · iexact Hb
  isplitl [A2]; · iexact A2
  isplitl [V0]; · iexact V0
  iintro ⟨Hb, A2, V0⟩
  iapply (wp_op2 d main_arg6 main_v1 _ rfl rfl (by decide) (fun A : S128.Idx → Elt F .f32 => shapeCast S1x128 A shapeCasts_S128_S1x128) (fun V => StableHlo.reshape_result main_arg6 main_v1 rfl shapeCasts_S128_S1x128 _ _ V) (m (lc d main_arg6)) (m (lc d main_v1)))
  isplitl [Hb]; · iexact Hb
  isplitl [A6]; · iexact A6
  isplitl [V1]; · iexact V1
  iintro ⟨Hb, A6, V1⟩
  ihave Hst := (Entails.of_eq hR0) $$ Hst
  icases Hst with ⟨HO, HR⟩
  iapply (wp_tab' d (embT m d) (w2 m d) (b2r m d) (m (lc d main_v2)))
  isplitr; · iexact Hlev
  isplitl [Hb]; · iexact Hb
  isplitl [HO]; · iexact HO
  isplitl [G0]; · iexact G0
  isplitl [V0]; · iexact V0
  isplitl [A5]; · iexact A5
  isplitl [V1]; · iexact V1
  isplitl [V2]; · iexact V2
  iintro ⟨Hb, HO, A5, %X, %hX, V2⟩
  iapply (wp_op2 d main_arg1 main_v3 _ rfl rfl (by decide) _ (fun V => StableHlo.unary_result _ _ _ _ _ V) (m (lc d main_arg1)) (m (lc d main_v3)))
  isplitl [Hb]; · iexact Hb
  isplitl [A1]; · iexact A1
  isplitl [V3]; · iexact V3
  iintro ⟨Hb, A1, V3⟩
  iapply (wp_op2 d main_v3 main_v4 _ rfl rfl (by decide) (fun A : S50x1024.Idx → Elt F .i32 => shapeCast S51200 A shapeCasts_S50x1024_S51200) (fun V => StableHlo.reshape_result main_v3 main_v4 rfl shapeCasts_S50x1024_S51200 _ _ V) (seqT m d) (m (lc d main_v4)))
  isplitl [Hb]; · iexact Hb
  isplitl [V3]; · iexact V3
  isplitl [V4]; · iexact V4
  iintro ⟨Hb, V3, V4⟩
  iapply (wp_op1 d main_c _ rfl _ (fun V => StableHlo.nullary_result _ _ _ V) (m (lc d main_c)))
  isplitl [Hb]; · iexact Hb
  isplitl [Cc]; · iexact Cc
  iintro ⟨Hb, Cc⟩
  iapply (wp_op2 d main_c main_call0_v0 _ rfl rfl (by decide) _ (fun V => StableHlo.unary_result _ _ _ _ _ V) (constantI S_ 32 0#32 : S_.Idx → Elt F .i32) (m (lc d main_call0_v0)))
  isplitl [Hb]; · iexact Hb
  isplitl [Cc]; · iexact Cc
  isplitl [Cp]; · iexact Cp
  iintro ⟨Hb, Cc, Cp⟩
  iapply (wp_op3 d main_v4 main_call0_v0 main_v5 _ rfl rfl (by decide) (by decide) (by decide) _ (fun V => StableHlo.binary_result _ _ _ _ _ _ _ V) (seqF m d) (constantI S_ 32 0#32 : S_.Idx → Elt F .i32) (m (lc d main_v5)))
  isplitl [Hb]; · iexact Hb
  isplitl [V4]; · iexact V4
  isplitl [Cp]; · iexact Cp
  isplitl [V5]; · iexact V5
  iintro ⟨Hb, V4, Cp, V5⟩
  imodintro
  iapply ((K (F := F)).wp_run (D (F := F)) 𝒱 (EH := EH) (P := PP m h) κ d 0)
  isplitr; · iexact Hctx
  isplitl [HO HR]
  · iapply (Entails.of_eq hR0.symm)
    isplitl [HO]; · iexact HO
    iexact HR
  isplitl [V2 V5 V6]
  · iapply (st_intro (idxs m) h (tabOK m) (out0 m) d X hX)
    isplitl [V2]; · iexact V2
    isplitl [V5]; · iexact V5
    iexact V6
  iintro ⟨Hst, Hdn⟩
  ihave Hdn := (dn_elim (idxs m) h (tabOK m) (out0 m) d) $$ Hdn
  icases Hdn with ⟨%f, %hf, V6⟩
  iapply (wp_op2 d main_arg7 main_v7 _ rfl rfl (by decide) _ (fun V => StableHlo.unary_result _ _ _ _ _ V) (m (lc d main_arg7)) (m (lc d main_v7)))
  isplitl [Hb]; · iexact Hb
  isplitl [A7]; · iexact A7
  isplitl [V7]; · iexact V7
  iintro ⟨Hb, A7, V7⟩
  iapply (wp_op2 d main_arg8 main_v8 _ rfl rfl (by decide) (fun A : S1000.Idx → Elt F .f32 => shapeCast S1000x1 A shapeCasts_S1000_S1000x1) (fun V => StableHlo.reshape_result main_arg8 main_v8 rfl shapeCasts_S1000_S1000x1 _ _ V) (m (lc d main_arg8)) (m (lc d main_v8)))
  isplitl [Hb]; · iexact Hb
  isplitl [A8]; · iexact A8
  isplitl [V8]; · iexact V8
  iintro ⟨Hb, A8, V8⟩
  ihave Hst := (show (K (F := F)).tcSt EH d ((0 : Fin 1).val + 1) ⊢ iprop(ow (F := F) d 1 ∗ R1) from Entails.of_eq hR1) $$ Hst
  icases Hst with ⟨HO, HR⟩
  iapply (wp_soft' d f (woT m d) (bor m d) (m (lc d main_v9)))
  isplitr; · iexact Hlev
  isplitl [Hb]; · iexact Hb
  isplitl [HO]; · iexact HO
  isplitl [G1]; · iexact G1
  isplitl [V6]; · iexact V6
  isplitl [V7]; · iexact V7
  isplitl [V8]; · iexact V8
  isplitl [V9]; · iexact V9
  iintro ⟨Hb, HO, V9⟩
  iapply (wp_op2 d main_v9 main_v10 _ rfl rfl (by decide) _ (fun V => StableHlo.unary_result _ _ _ _ _ V) (out9 (woT m d) f (bor m d)) (m (lc d main_v10)))
  isplitl [Hb]; · iexact Hb
  isplitl [V9]; · iexact V9
  isplitl [V10]; · iexact V10
  iintro ⟨Hb, V9, V10⟩
  imodintro
  isplitl [HO HR]
  · iapply (Entails.of_eq hR1.symm)
    isplitl [HO]; · iexact HO
    iexact HR
  isplitr [Hb Hts]
  · unfold FIN
    isplitr [V10]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    iexists (res m d f)
    isplitr; · ipureintro; exact ⟨f, hf, rfl⟩
    iexact V10
  isplitl [Hb]; · iexact Hb
  iexact Hts

end Cert.Proof.Sc

end
-- ==== Proof.Final.lean ====
/-
  The whole program's run, over any float values: every argument stays, every semaphore ends at zero, and the result is one
  that the calls allow.
-/
module

public import proofs.«01_k».proof.Proof.Main
public import proofs.«01_k».proof.Proof.Split
public import proofs.«01_k».proof.Proof.Gen.Pre_rows_in_range
public import Idealize.ShloMosaic.Lib.ReduceAll
public import Idealize.ShloMosaic.Lib.Pointwise.ShapeOpsCore

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

instance (h : InRange m) : (PP m h).IsStorable := P_storable (idxs m) h (tabOK m) (out0 m)

/-- What the run leaves on one device: the arguments as they were, and an allowed result. -/
def fq (h : InRange m) (d : Dev nD) (s' : Phys nD τ sig (Elt F)) : Prop :=
  (s'.mem.mem (lc d main_arg0) = m (lc d main_arg0) ∧ s'.mem.mem (lc d main_arg1) = m (lc d main_arg1)
    ∧ s'.mem.mem (lc d main_arg2) = m (lc d main_arg2) ∧ s'.mem.mem (lc d main_arg3) = m (lc d main_arg3)
    ∧ s'.mem.mem (lc d main_arg4) = m (lc d main_arg4) ∧ s'.mem.mem (lc d main_arg5) = m (lc d main_arg5)
    ∧ s'.mem.mem (lc d main_arg6) = m (lc d main_arg6) ∧ s'.mem.mem (lc d main_arg7) = m (lc d main_arg7)
    ∧ s'.mem.mem (lc d main_arg8) = m (lc d main_arg8))
  ∧ resOK m h d (s'.mem.mem (lc d main_v10))

/-- An array held whole says what the memory holds there. -/
theorem keep {s' : Phys nD τ sig (Elt F)} {ℓ : Loc nD τ sig} {f : Buf (Elt F) ℓ} :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  · iexact HSI

set_option maxRecDepth 16384 in
theorem hfin (h : InRange m) (d : Dev nD) (s' : Phys nD τ sig (Elt F)) : iprop(FIN m h d ∗ SI s') ⊢ (⌜fq m h d s'⌝ : sProp 𝕄) := by
  unfold FIN
  iintro ⟨⟨⟨A0, A1, A2, A3, A4, A5, A6, A7, A8⟩, ⟨%r, %hr, R⟩⟩, HSI⟩
  ihave H := keep $$ [A0 HSI]
  · isplitl [A0] <;> iassumption
  icases H with ⟨%h0, HSI⟩
  ihave H := keep $$ [A1 HSI]
  · isplitl [A1] <;> iassumption
  icases H with ⟨%h1, HSI⟩
  ihave H := keep $$ [A2 HSI]
  · isplitl [A2] <;> iassumption
  icases H with ⟨%h2, HSI⟩
  ihave H := keep $$ [A3 HSI]
  · isplitl [A3] <;> iassumption
  icases H with ⟨%h3, HSI⟩
  ihave H := keep $$ [A4 HSI]
  · isplitl [A4] <;> iassumption
  icases H with ⟨%h4, HSI⟩
  ihave H := keep $$ [A5 HSI]
  · isplitl [A5] <;> iassumption
  icases H with ⟨%h5, HSI⟩
  ihave H := keep $$ [A6 HSI]
  · isplitl [A6] <;> iassumption
  icases H with ⟨%h6, HSI⟩
  ihave H := keep $$ [A7 HSI]
  · isplitl [A7] <;> iassumption
  icases H with ⟨%h7, HSI⟩
  ihave H := keep $$ [A8 HSI]
  · isplitl [A8] <;> iassumption
  icases H with ⟨%h8, HSI⟩
  ihave H := keep $$ [R HSI]
  · isplitl [R] <;> iassumption
  icases H with ⟨%h9, -⟩
  ipureintro
  exact ⟨⟨h0, h1, h2, h3, h4, h5, h6, h7, h8⟩, by rw [h9]; exact hr⟩

def QC (h : InRange m) : PUnit × MemSt nD τ sig (Elt F) → Prop := fun r =>
  (∀ c : Dev nD, (r.2.mem (lc c main_arg0) = m (lc c main_arg0) ∧ r.2.mem (lc c main_arg1) = m (lc c main_arg1)
    ∧ r.2.mem (lc c main_arg2) = m (lc c main_arg2) ∧ r.2.mem (lc c main_arg3) = m (lc c main_arg3)
    ∧ r.2.mem (lc c main_arg4) = m (lc c main_arg4) ∧ r.2.mem (lc c main_arg5) = m (lc c main_arg5)
    ∧ r.2.mem (lc c main_arg6) = m (lc c main_arg6) ∧ r.2.mem (lc c main_arg7) = m (lc c main_arg7)
    ∧ r.2.mem (lc c main_arg8) = m (lc c main_arg8)) ∧ resOK m h c (r.2.mem (lc c main_v10)))
  ∧ r.2.sem = fun _ => 0

theorem run_main (h : InRange m) :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := PP m h) (A := ∅) facts v₀
    (fun q hq => match q with | 0 => nomatch hq)
    (fun q _ => match q with | 0 => tileObl (idxs m) h (tabOK m) (out0 m))
    (fun q _ => match q with | 0 => SparseCore.Cfg.VecSplit.of_plain (vecSplit (idxs m) h (tabOK m) (out0 m)))
    m ρ main (fun d => ghs d) (FIN m h) (u₀ (F := F)) (sep_elim_left.trans (hu₀ m h)) (hmain m ρ h) (fq m h) (hfin m h) (QC m h)
    (fun _ h hz => ⟨h, hz⟩)

/-! ## Every index names a row -/

/-- An entry in range, as the precondition tests it, is below the table's height. -/
theorem key (v : BitVec 32) (e : IntOp.andi (IntOp.cmpi .sge v 0#32) (IntOp.cmpi .slt v 100000#32) = 1#1) : v.toNat < 100000 := by
  obtain ⟨h1, h2⟩ := IntOp.andi_eq_one.1 e
  have of1 (p : Bool) (hp : BitVec.ofBool p = 1#1) : p = true := by cases p <;> first | rfl | exact absurd hp (by decide)
  have h1 := of1 _ h1
  have h2 := of1 _ h2
  simp only [BitVec.sle_eq_decide, BitVec.slt_eq_decide, decide_eq_true_eq, BitVec.toInt_eq_toNat_cond, BitVec.toNat_ofNat,
    Nat.reducePow, Nat.reduceMod] at h1 h2
  omega

/-- The precondition bounds every entry of the second argument. -/
theorem entries_lt {a0 a1 : IVec S1024x50 32} {a2 : FVec F S100000x64 .f32} {a3 a5 : FVec F S64x128 .f32} {a4 a6 : FVec F S128 .f32}
    {a7 : FVec F S128x1000 .f32} {a8 : FVec F S1000 .f32}
    (h : Cert.Pre_rows_in_range.fn a0 a1 a2 a3 a4 a5 a6 a7 a8 = fun _ => 1#1) (i : S1024x50.Idx) : (a1 i : BitVec 32).toNat < 100000 :=
  by
  have e := congrFun h (fun a => Fin.elim0 a)
  exact key _ (Host.reduce_andi_eq_one _ _ _ _ _ e i (funext fun a => Fin.elim0 a))

/-- The list of indices is the second argument's entries, column by column, and then zeros. -/
theorem inRange (h : ∀ d i, (m (lc d main_arg1) i : BitVec 32).toNat < 100000) : InRange m := by
  intro d x
  unfold idxs
  rw [pad_apply]
  split
  · exact h d _
  · decide

end Cert.Proof.Sc

end
-- ==== Proof.Frames.lean ====
/-
  The programs' frames: each run terminates, keeps its arguments and ends with every semaphore at zero. The kernel and its
  ideal program have the same text, so one run over any float values serves both.
-/
module

public import proofs.«01_k».proof.Defs
public import proofs.«01_k».proof.Proof.Final
public import proofs.«01_k».proof.Proof.Gen.Kernel
public import proofs.«01_k».proof.Proof.Gen.ReferenceIdeal.Run

@[expose] public section

noncomputable section

namespace Cert.Proof

open Idealize.ShloMosaic Idealize.SL.Sem

/-- The two programs' kernels are the same, label by label. -/
theorem bodies_eq : Kernel.defs₀ (F := Bits) = KernelIdeal.defs₀ (F := Bits) := by
  funext k ℓ a
  match k, ℓ, a with
  | .tc, 0, (t, s) => rfl
  | .scVector c s, 1, _ => rfl
  | .tc, 2, (t, s) => rfl
  | .tc, 1, _ => rfl
  | .scVector c s, 0, _ => rfl
  | .scVector c s, 2, _ => rfl
  | .scScalar c, 0, _ => rfl
  | .scScalar c, 1, _ => rfl
  | .scScalar c, 2, _ => rfl

theorem defs_eq : Kernel.defs (F := Bits) = KernelIdeal.defs (F := Bits) :=
  congrArg (fun D => KernelIdeal.sc.defs (Pipeline.defs KernelIdeal.pcfgs D)) bodies_eq

theorem frame_kernel : Cert.quiescent_Kernel := by
  intro m ρ hpre
  have ok : Sc.InRange (F := Bits) m := Sc.inRange m fun d i => Sc.entries_lt (hpre d) i
  have run : ∀ D, D = KernelIdeal.defs (F := Bits) → θ_run D KernelIdeal.threads ⟨m, fun _ => 0, ρ⟩ (Sc.QC m ok) := fun D e => by
    rw [e]
    exact Sc.run_main (F := Bits) m ρ ok
  exact (θ_run Kernel.defs Kernel.threads _).mono (fun _ h => ⟨fun c => (h.1 c).1, h.2⟩) (run _ defs_eq)

theorem frame_ideal : Cert.quiescent_KernelIdeal := fun m ρ hpre =>
  (θ_run Cert.KernelIdeal.defs _ _).mono (fun _ h => ⟨fun c => (h.1 c).1, h.2⟩)
    (Sc.run_main (F := Ideal) m ρ (Sc.inRange m fun d i => Sc.entries_lt (hpre d) i))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Payloads.lean ====
/-
  What the two TensorCore kernels' stored blocks are over the extended reals, element by element.
-/
module

public import proofs.«01_k».proof.Proof.Gen.KernelIdeal.Skeleton
public import Idealize.ShloMosaic.PureOps.Ideal.Laws
public import Idealize.ShloMosaic.Lib.IdealHost
public import Idealize.ShloMosaic.Lib.ValueIdxCoords
public import Idealize.ShloMosaic.Lib.Pipeline.Value

@[expose] public section

noncomputable section

namespace Cert.Proof.Val

open Cert.KernelIdeal Cert.KernelIdeal.Gen
open Idealize.ShloMosaic Idealize.ShloMosaic.ValueIdx
open scoped BigOperators

/-! ## The mathematics -/

/-- The greatest of a row, from −∞. -/
def top (x : Fin 1000 → EReal) : EReal := (Finset.univ : Finset (Fin 1000)).fold max (Ideal.ofBits .f32 0xFF800000#32) x
/-- A row's exponentials, its greatest subtracted. -/
def ex (x : Fin 1000 → EReal) (v : Fin 1000) : EReal := Ideal.exp (x v - top x)
/-- A row's probabilities. -/
def prob (x : Fin 1000 → EReal) (v : Fin 1000) : EReal := Ideal.div (ex x v) (∑ u, ex x u)
/-- One element of the rectified layer: a row of 64 against a column, an offset, and zero. -/
def unit (a w : Fin 64 → EReal) (b : EReal) : EReal := max (∑ k, a k * w k + b) 0

/-! ## The first kernel -/

theorem pay1_apply (B : Vec Ideal S64x12544 .f32) (W : Vec Ideal S64x128 .f32) (b : Vec Ideal S1x128 .f32) (r : Fin 12544) (c : Fin 128) :
    k0_pay1 B W b (ix2 r c) = unit (fun k => B (ix2 k r)) (fun k => W (ix2 k c)) (b (ix2 0 c)) := by
  unfold k0_pay1 unit
  simp only [maximumf_apply, addf_apply, shapeCast_self]
  refine congrArg₂ max (congrArg₂ (· + ·) ?_ ?_) ?_
  · refine (Ideal.matmul_constant_zero_apply _ _ _ _ _).trans ?_
    refine (Equiv.sum_comp (contrEquiv1 dot_S64x12544_S64x128_S12544x128_0_0_1_1_n_n 64 rfl rfl).symm _).symm.trans
      (Finset.sum_congr rfl fun k _ => ?_)
    have hk := contrEquiv1_symm_val dot_S64x12544_S64x128_S12544x128_0_0_1_1_n_n 64 rfl rfl k
    refine congrArg₂ (· * ·) (congrArg B ?_) (congrArg W ?_) <;> funext a <;> apply Fin.ext
    · match a with
      | ⟨0, _⟩ => exact hk
      | ⟨1, _⟩ => rfl
    · match a with
      | ⟨0, _⟩ => exact hk
      | ⟨1, _⟩ => rfl
  · exact broadcastTo_apply _ _ _ (ix2 0 c) fun a => by match a with | ⟨0, _⟩ => rfl | ⟨1, _⟩ => rfl
  · exact Ideal.ofBits_zero_f32

/-! ## The last kernel -/

/-- The logits of a row of the gathered table. -/
def logits (W : Vec Ideal S1000x128 .f32) (R : Vec Ideal S1024x128 .f32) (b : Vec Ideal S1000x1 .f32) (p : Fin 1024) (v : Fin 1000) : EReal :=
  ∑ k : Fin 128, W (ix2 v k) * R (ix2 p k) + b (ix2 v 0)

theorem pay2_apply (W : Vec Ideal S1000x128 .f32) (R : Vec Ideal S1024x128 .f32) (b : Vec Ideal S1000x1 .f32) (v : Fin 1000) (p : Fin 1024) :
    k2_pay2 W R b (ix3 0 v p) = ex (logits W R b p) v * Ideal.div 1 (∑ u, ex (logits W R b p) u) := by
  unfold k2_pay2
  simp only [shapeCast_self]
  refine (shapeCast_addUnit_apply _ _ _ _).trans ?_
  have lg : ∀ u : Fin 1000, (addf (matmul dot_S1000x128_S1024x128_S1000x1024_1_1_0_0_n_n none (φ₁ := .f32) (φ₂ := .f32) W R (constant S1000x1024 .f32 0x00000000#32))
      (broadcastTo S1000x1024 b broadcasts_S1000x1_S1000x1024) : FVec Ideal S1000x1024 .f32) (ix2 u p) = logits W R b p u := by
    intro u
    refine congrArg₂ (· + ·) ?_ ?_
    · refine (Ideal.matmul_constant_zero_apply _ _ _ _ _).trans ?_
      refine (Equiv.sum_comp (contrEquiv1 dot_S1000x128_S1024x128_S1000x1024_1_1_0_0_n_n 128 rfl rfl).symm _).symm.trans
        (Finset.sum_congr rfl fun k _ => ?_)
      have hk := contrEquiv1_symm_val dot_S1000x128_S1024x128_S1000x1024_1_1_0_0_n_n 128 rfl rfl k
      refine congrArg₂ (· * ·) (congrArg W ?_) (congrArg R ?_) <;> funext a <;> apply Fin.ext
      · match a with
        | ⟨0, _⟩ => rfl
        | ⟨1, _⟩ => exact hk
      · match a with
        | ⟨0, _⟩ => rfl
        | ⟨1, _⟩ => exact hk
    · exact broadcastTo_apply _ _ _ (ix2 u 0) fun a => by match a with | ⟨0, _⟩ => rfl | ⟨1, _⟩ => rfl
  generalize addf (matmul dot_S1000x128_S1024x128_S1000x1024_1_1_0_0_n_n none (φ₁ := .f32) (φ₂ := .f32) W R (constant S1000x1024 .f32 0x00000000#32))
      (broadcastTo S1000x1024 (α := Ideal .f32) b broadcasts_S1000x1_S1000x1024) = X at lg
  have spread : ∀ (Y : FVec Ideal S1x1024 .f32) (u : Fin 1000), broadcastTo S1000x1024 Y broadcasts_S1x1024_S1000x1024 (ix2 u p) = Y (ix2 0 p) :=
    fun Y u => broadcastTo_apply _ _ _ (ix2 0 p) fun a => by match a with | ⟨0, _⟩ => rfl | ⟨1, _⟩ => rfl
  have cast : ∀ (Y : FVec Ideal S1024 .f32), shapeCast S1x1024 Y shapeCasts_S1024_S1x1024 (ix2 0 p) = Y (ix1 p) := by
    intro Y
    refine (shapeCast_addUnit_apply _ Y _ _).trans (congrArg Y ?_)
    funext a; match a with | ⟨0, _⟩ => rfl
  have lift : ∀ u : Fin 1000, (reduces_S1000x1024_S1024).lift (ix1 p) u = (ix2 u p : S1000x1024.Idx) := by
    intro u; funext a; apply Fin.ext; match a with | ⟨0, _⟩ => rfl | ⟨1, _⟩ => rfl
  have mx : multiReduction .maximumf [0] S1024 X 0xFF800000#32 reduces_S1000x1024_S1024 (.inl rfl) rfl (ix1 p) = top (logits W R b p) := by
    refine (Ideal.multiReduction_maximumf_single X _ _ _ _ _).trans ?_
    exact congrArg (fun f => Finset.fold max _ f _) (funext fun u => (congrArg X (lift u)).trans (lg u))
  have e : ∀ u : Fin 1000, exp (subf X (broadcastTo S1000x1024 (shapeCast S1x1024 (multiReduction .maximumf [0] S1024 X 0xFF800000#32 reduces_S1000x1024_S1024 (.inl rfl) rfl) shapeCasts_S1024_S1x1024) broadcasts_S1x1024_S1000x1024)) (ix2 u p)
      = ex (logits W R b p) u := by
    intro u
    show Ideal.exp (X (ix2 u p) - broadcastTo S1000x1024 _ _ (ix2 u p)) = _
    rw [spread, cast, mx, lg]; rfl
  refine (congrArg (fun i => mulf _ _ i) (show _ = (ix2 v p : S1000x1024.Idx) from ?_)).trans ?_
  · funext a; match a with | ⟨0, _⟩ => rfl | ⟨1, _⟩ => rfl
  refine congrArg₂ (· * ·) (e v) ?_
  rw [spread]
  refine congrArg₂ Ideal.div Ideal.ofBits_one_f32 ?_
  rw [cast]
  refine (Ideal.multiReduction_add_single _ _ _ _ _ _).trans (Finset.sum_congr rfl fun u _ => ?_)
  exact (congrArg _ (lift u)).trans (e u)

end Cert.Proof.Val

end
-- ==== Proof.Finite.lean ====
/-
  Where every float the kernel reads is a real number, the sum of a row's exponentials is not zero, so dividing each by it and
  multiplying each by its reciprocal agree.
-/
module

public import proofs.«01_k».proof.Proof.Payloads

@[expose] public section

noncomputable section

namespace Cert.Proof.Val

open Idealize.ShloMosaic
open scoped BigOperators

/-- A real number among the extended reals. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} (hx : IsReal x) (hy : IsReal y) : IsReal (max x y) := by
  rcases max_choice x y with h | h <;> rw [h] <;> assumption
theorem IsReal.sum {n : Nat} {f : Fin n → EReal} (h : ∀ i, IsReal (f i)) : IsReal (∑ i, f i) :=
  Finset.sum_induction f IsReal (fun _ _ => IsReal.add) ⟨0, rfl⟩ fun i _ => h i

theorem isReal_unit {a w : Fin 64 → EReal} {b : EReal} (ha : ∀ k, IsReal (a k)) (hw : ∀ k, IsReal (w k)) (hb : IsReal b) : IsReal (unit a w b) :=
  ((IsReal.sum fun k => (ha k).mul (hw k)).add hb).max ⟨0, rfl⟩

theorem ofBits_negInf : Ideal.ofBits .f32 0xFF800000#32 = ⊥ := by simp [Ideal.ofBits, Ideal.ieee]
theorem ofBits_inf : Ideal.ofBits .f32 0x7F800000#32 = ⊤ := by simp [Ideal.ofBits, Ideal.ieee]

/-- The greatest of a row of real numbers is one of them. -/
theorem top_mem {x : Fin 1000 → EReal} (h : ∀ v, IsReal (x v)) : ∃ v, top x = x v := by
  unfold top
  rw [ofBits_negInf]
  have e : (Finset.univ : Finset (Fin 1000)).fold max ⊥ x = Finset.univ.sup x := rfl
  obtain ⟨v, -, hv⟩ := Finset.exists_mem_eq_sup (Finset.univ : Finset (Fin 1000)) ⟨0, Finset.mem_univ _⟩ x
  exact ⟨v, e.trans hv⟩

theorem exp_nonneg (x : EReal) : 0 ≤ Ideal.exp x := by
  induction x with
  | bot => exact le_of_eq rfl
  | top => exact le_top
  | coe r => exact EReal.coe_nonneg.2 (Real.exp_pos r).le

theorem sum_ne_zero {x : Fin 1000 → EReal} (h : ∀ v, IsReal (x v)) : ∑ u, ex x u ≠ 0 := by
  obtain ⟨v, hv⟩ := top_mem h
  obtain ⟨r, hr⟩ := h v
  have one : ex x v = 1 := by
    unfold ex
    rw [hv, hr, ← EReal.coe_sub, sub_self]
    show ((Real.exp 0 : ℝ) : EReal) = 1
    rw [Real.exp_zero]; rfl
  have le : ex x v ≤ ∑ u, ex x u := Finset.single_le_sum (f := ex x) (fun u _ => exp_nonneg _) (Finset.mem_univ v)
  rw [one] at le
  exact (lt_of_lt_of_le zero_lt_one le).ne'

theorem mul_recip {x : Fin 1000 → EReal} (h : ∀ v, IsReal (x v)) (v : Fin 1000) : ex x v * Ideal.div 1 (∑ u, ex x u) = prob x v :=
  Ideal.mul_one_div (sum_ne_zero h)

/-- An extended real whose absolute value is below +∞ is a real number. -/
theorem isReal_of_abs {x : EReal} (h : FloatOps.cmpf (F := Ideal) (φ := .f32) .olt (FloatOps.hostAbsf (F := Ideal) (φ := .f32) x) (Ideal.ofBits .f32 0x7F800000#32) = 1#1) : IsReal x := by
  have lt : max x (-x) < ⊤ := by
    rw [← ofBits_inf]
    by_contra hn
    have e : FloatOps.cmpf (F := Ideal) (φ := .f32) .olt (FloatOps.hostAbsf (F := Ideal) (φ := .f32) x) (Ideal.ofBits .f32 0x7F800000#32) = 0#1 :=
      congrArg BitVec.ofBool (decide_eq_false hn)
    rw [e] at h
    exact absurd h (by decide)
  induction x with
  | bot => exact absurd lt (by simp)
  | top => exact absurd lt (by simp)
  | coe r => exact ⟨r, rfl⟩

end Cert.Proof.Val

end
-- ==== Proof.Pre.lean ====
/-
  What the precondition with finite floats says: every index names a row, and every float of the five arrays that the kernel reads
  is a real number.
-/
module

public import proofs.«01_k».proof.Proof.Finite
public import proofs.«01_k».proof.Proof.Final
public import proofs.«01_k».proof.Proof.Gen.Pre_rows_in_range_finite

@[expose] public section

noncomputable section

namespace Cert.Proof.Val

open Cert.Pre_rows_in_range_finite
open Idealize.ShloMosaic

variable {a0 a1 : IVec S1024x50 32} {a2 : FVec Ideal S100000x64 .f32} {a3 a5 : FVec Ideal S64x128 .f32} {a4 a6 : FVec Ideal S128 .f32}
    {a7 : FVec Ideal S128x1000 .f32} {a8 : FVec Ideal S1000 .f32}

structure Reals (a1 : IVec S1024x50 32) (a2 : FVec Ideal S100000x64 .f32) (a5 : FVec Ideal S64x128 .f32) (a6 : FVec Ideal S128 .f32)
    (a7 : FVec Ideal S128x1000 .f32) (a8 : FVec Ideal S1000 .f32) : Prop where
  idx : ∀ i, (a1 i : BitVec 32).toNat < 100000
  emb : ∀ i, IsReal (a2 i)
  w : ∀ i, IsReal (a5 i)
  b : ∀ i, IsReal (a6 i)
  wo : ∀ i, IsReal (a7 i)
  bo : ∀ i, IsReal (a8 i)

theorem reals (h : fn a0 a1 a2 a3 a4 a5 a6 a7 a8 = fun _ => 1#1) : Reals a1 a2 a5 a6 a7 a8 := by
  have e := congrFun h (fun a => Fin.elim0 a)
  unfold fn fn_part1 at e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h2⟩ := IntOp.andi_eq_one.1 e
  exact
    { idx := fun i => Sc.key _ (Host.reduce_andi_eq_one _ _ _ _ _ e i (funext fun a => Fin.elim0 a))
      emb := fun i => isReal_of_abs (Host.reduce_andi_eq_one _ _ _ _ _ h2 i (funext fun a => Fin.elim0 a))
      w := fun i => isReal_of_abs (Host.reduce_andi_eq_one _ _ _ _ _ h5 i (funext fun a => Fin.elim0 a))
      b := fun i => isReal_of_abs (Host.reduce_andi_eq_one _ _ _ _ _ h6 i (funext fun a => Fin.elim0 a))
      wo := fun i => isReal_of_abs (Host.reduce_andi_eq_one _ _ _ _ _ h7 i (funext fun a => Fin.elim0 a))
      bo := fun i => isReal_of_abs (Host.reduce_andi_eq_one _ _ _ _ _ h8 i (funext fun a => Fin.elim0 a)) }

end Cert.Proof.Val

end
-- ==== Proof.Ref.lean ====
/-
  What the reference computes over the extended reals, element by element: the embeddings' rows that the sequences name, the
  rectified layer, the logits, and their softmax over the classes.
-/
module

public import proofs.«01_k».proof.Proof.Gen.ReferenceIdeal.Run
public import proofs.«01_k».proof.Proof.Payloads
public import Idealize.ShloMosaic.Lib.ReduceAll
public import Idealize.ShloMosaic.Lib.KernelVsHost

@[expose] public section

noncomputable section

namespace Cert.Proof.Val

open Cert.ReferenceIdeal Cert.ReferenceIdeal.Facts Cert.ReferenceIdeal.Facts₀
open Idealize.ShloMosaic Idealize.ShloMosaic.ValueIdx Idealize.ShloMosaic.TcCoe
open scoped BigOperators

namespace Ref

variable (s : IVec S1024x50 32) (emb : FVec Ideal S100000x64 .f32) (W : FVec Ideal S64x128 .f32) (b : FVec Ideal S128 .f32)
  (Wo : FVec Ideal S128x1000 .f32) (bo : FVec Ideal S1000 .f32)

/-! ## The reference's arrays, one after the other -/

/-- The indices, a negative one counted from the table's end. -/
def idx : IVec S1024x50x1 32 :=
  broadcastInDim S1024x50x1 ![0, 1] bcast_S1024x50_S1024x50x1_0_1
    (select (cmpi .slt s (broadcastInDim S1024x50 ![] bcast_S_S1024x50 (constantI S_ 32 0#32)))
      (addi s (broadcastInDim S1024x50 ![] bcast_S_S1024x50 (constantI S_ 32 100000#32))) s)
/-- Which indices name a row. -/
def mask : IVec S1024x50 1 :=
  Host.reduce IntOp.andi (andi (cmpi .sge (idx s) (broadcastInDim S1024x50x1 ![] bcast_S_S1024x50x1 (constantI S_ 32 0#32)))
    (cmpi .sle (idx s) (broadcastInDim S1024x50x1 ![0, 1, 2] bcast_S1x1x1_S1024x50x1_0_1_2 (broadcastInDim S1x1x1 ![2] bcast_S1_S1x1x1_2 (constantI S1 32 99999#32)))))
    (constantI S_ 1 1#1) reducesTo_S1024x50x1_S1024x50_d2 h_S_
/-- The rows taken. -/
def rows : FVec Ideal S1024x50x64 .f32 :=
  select (broadcastInDim S1024x50x64 ![0, 1] bcast_S1024x50_S1024x50x64_0_1 (mask s))
    (Host.gather gather_S100000x64_S1024x50x1_S1024x50x64_2_0_n_n_0_2_164 emb (idx s))
    (broadcastInDim S1024x50x64 ![] bcast_S_S1024x50x64 (constant S_ .f32 0x7FC00000#32))
/-- The rectified layer. -/
def layer : FVec Ideal S1024x50x128 .f32 :=
  maximumf (addf (Host.dotGeneral dot_S1024x50x64_S64x128_S1024x50x128_2_0_01_1_n_n none (rows s emb) W)
    (broadcastInDim S1024x50x128 ![0, 1, 2] bcast_S1x1x128_S1024x50x128_0_1_2 (broadcastInDim S1x1x128 ![2] bcast_S128_S1x1x128_2 b)))
    (broadcastInDim S1024x50x128 ![] bcast_S_S1024x50x128 (constant S_ .f32 0x00000000#32))
/-- The logits. -/
def lgt : FVec Ideal S1024x50x1000 .f32 :=
  addf (Host.dotGeneral dot_S1024x50x128_S128x1000_S1024x50x1000_2_0_01_1_n_n none (layer s emb W b) Wo)
    (broadcastInDim S1024x50x1000 ![0, 1, 2] bcast_S1x1x1000_S1024x50x1000_0_1_2 (broadcastInDim S1x1x1000 ![2] bcast_S1000_S1x1x1000_2 bo))
/-- The exponentials of an array of logits. -/
def exps (L : FVec Ideal S1024x50x1000 .f32) : FVec Ideal S1024x50x1000 .f32 :=
  Host.exp (subf L (broadcastInDim S1024x50x1000 ![0, 1, 2] bcast_S1024x50x1_S1024x50x1000_0_1_2
    (broadcastInDim S1024x50x1 ![0, 1] bcast_S1024x50_S1024x50x1_0_1
      (maximumf (broadcastInDim S1024x50 ![] bcast_S_S1024x50 (constant S_ .f32 0xFF800000#32))
        (Host.reduce FloatOps.maximumf L (constant S_ .f32 0xFF800000#32) reducesTo_S1024x50x1000_S1024x50_d2 h_S_)))))
/-- The softmax of an array of logits. -/
def soft (L : FVec Ideal S1024x50x1000 .f32) : FVec Ideal S1024x50x1000 .f32 :=
  Host.divf (exps L) (broadcastInDim S1024x50x1000 ![0, 1, 2] bcast_S1024x50x1_S1024x50x1000_0_1_2
    (broadcastInDim S1024x50x1 ![0, 1] bcast_S1024x50_S1024x50x1_0_1
      (Host.reduceAdd (exps L) (constant S_ .f32 0x00000000#32) reducesTo_S1024x50x1000_S1024x50_d2 h_S_)))

set_option maxRecDepth 8192 in
theorem res_eq (m : (ℓ : Loc nD τ sig) → Buf (Elt Ideal) ℓ) (c : Dev nD) :
    Value.res_main_v21 m c = soft (lgt (m ((c.tc : Thread nD τ).loc main_arg1)) (m ((c.tc : Thread nD τ).loc main_arg2)) (m ((c.tc : Thread nD τ).loc main_arg5))
      (m ((c.tc : Thread nD τ).loc main_arg6)) (m ((c.tc : Thread nD τ).loc main_arg7)) (m ((c.tc : Thread nD τ).loc main_arg8))) := by
  unfold Value.res_main_v21 soft exps lgt layer rows mask idx
  rfl

/-! ## Read at an index -/

variable {s}

theorem idx_apply (h : ∀ i, (s i : BitVec 32).toNat < 100000) (p : Fin 1024) (t : Fin 50) (z : Fin 1) : idx s (ix3 p t z) = s (ix2 p t) := by
  unfold idx
  refine (broadcastInDim_apply _ _ _ _ (ix2 p t) fun a => by match a with | ⟨0, _⟩ => rfl | ⟨1, _⟩ => rfl).trans ?_
  show Scalar.select (IntOp.cmpi .slt (s (ix2 p t)) 0#32) _ _ = _
  have : IntOp.cmpi .slt (s (ix2 p t)) 0#32 = 0#1 := by
    have := h (ix2 p t)
    generalize s (ix2 p t) = v at this
    show BitVec.ofBool (v.slt 0#32) = 0#1
    have e : v.slt 0#32 = false := by
      simp only [BitVec.slt_eq_decide, decide_eq_false_iff_not, BitVec.toInt_eq_toNat_cond, BitVec.toNat_ofNat,
        Nat.reducePow, Nat.reduceMod]
      omega
    rw [e]; rfl
  rw [this, select_zero]

theorem mask_apply (h : ∀ i, (s i : BitVec 32).toNat < 100000) (j : S1024x50.Idx) : mask s j = 1#1 := by
  unfold mask
  refine Host.reduce_andi_one _ _ _ _ _ rfl fun i => ?_
  have this : (idx s i).toNat < 100000 := by
    rw [show idx s i = s (ix2 (i 0) (i 1)) from (congrArg (idx s) (eq_ix3 i)).trans (idx_apply h (i 0) (i 1) (i 2))]
    exact h _
  show IntOp.andi (IntOp.cmpi .sge (idx s i) 0#32) (IntOp.cmpi .sle (idx s i) 99999#32) = 1#1
  generalize idx s i = v at this
  have e1 : (0#32 : BitVec 32).sle v = true := by
    simp only [BitVec.sle_eq_decide, decide_eq_true_eq, BitVec.toInt_eq_toNat_cond, BitVec.toNat_ofNat, Nat.reducePow, Nat.reduceMod]
    omega
  have e2 : v.sle 99999#32 = true := by
    simp only [BitVec.sle_eq_decide, decide_eq_true_eq, BitVec.toInt_eq_toNat_cond, BitVec.toNat_ofNat, Nat.reducePow, Nat.reduceMod]
    omega
  exact IntOp.andi_eq_one.2 ⟨congrArg BitVec.ofBool e1, congrArg BitVec.ofBool e2⟩

theorem rows_apply (h : ∀ i, (s i : BitVec 32).toNat < 100000) (p : Fin 1024) (t : Fin 50) (k : Fin 64) :
    rows s emb (ix3 p t k) = emb (ix2 ⟨_, h (ix2 p t)⟩ k) := by
  unfold rows
  show Scalar.select (broadcastInDim S1024x50x64 ![0, 1] bcast_S1024x50_S1024x50x64_0_1 (mask s) (ix3 p t k)) _ _ = _
  rw [show broadcastInDim S1024x50x64 ![0, 1] bcast_S1024x50_S1024x50x64_0_1 (mask s) (ix3 p t k) = 1#1 from mask_apply h _, select_one]
  refine congrArg emb ?_
  have st : (gather_S100000x64_S1024x50x1_S1024x50x64_2_0_n_n_0_2_164).siIdx (ix3 p t k) ⟨0, by decide⟩ = ix3 p t 0 := by
    funext a; apply Fin.ext; match a with | ⟨0, _⟩ => rfl | ⟨1, _⟩ => rfl | ⟨2, _⟩ => rfl
  funext a; apply Fin.ext
  match a with
  | ⟨0, _⟩ =>
    show min ((idx s ((gather_S100000x64_S1024x50x1_S1024x50x64_2_0_n_n_0_2_164).siIdx (ix3 p t k) ⟨0, by decide⟩)).toInt.toNat) 99999 = (s (ix2 p t)).toNat
    rw [st, idx_apply h]
    have := h (ix2 p t)
    generalize s (ix2 p t) = v at this
    rw [BitVec.toInt_eq_toNat_cond]
    omega
  | ⟨1, _⟩ =>
    show (gather_S100000x64_S1024x50x1_S1024x50x64_2_0_n_n_0_2_164).start (ix3 p t k) (idx s) 1
      + (gather_S100000x64_S1024x50x1_S1024x50x64_2_0_n_n_0_2_164).batchCoord (ix3 p t k) 1
      + (gather_S100000x64_S1024x50x1_S1024x50x64_2_0_n_n_0_2_164).offCoord (ix3 p t k) 1 = k.val
    rw [GatherDims.batchCoord_eq_zero _ _ _ (by decide), Nat.add_zero]
    unfold GatherDims.start
    rw [dif_neg (by decide), Nat.zero_add]
    rfl

theorem layer_apply (h : ∀ i, (s i : BitVec 32).toNat < 100000) (p : Fin 1024) (t : Fin 50) (c : Fin 128) :
    layer s emb W b (ix3 p t c) = unit (fun k => emb (ix2 ⟨_, h (ix2 p t)⟩ k)) (fun k => W (ix2 k c)) (b (ix1 c)) := by
  unfold layer unit
  refine congrArg₂ max (congrArg₂ (· + ·) ?_ ?_) ?_
  · simp only [Host.dotGeneral]
    refine (Ideal.dotGeneral_apply _ _ _ _ _ _).trans ?_
    refine (Equiv.sum_comp (contrEquiv1 dot_S1024x50x64_S64x128_S1024x50x128_2_0_01_1_n_n 64 rfl rfl).symm _).symm.trans
      (Finset.sum_congr rfl fun k _ => ?_)
    have hk := contrEquiv1_symm_val dot_S1024x50x64_S64x128_S1024x50x128_2_0_01_1_n_n 64 rfl rfl k
    refine congrArg₂ (· * ·) ((congrArg (rows s emb) (?_ : _ = ix3 p t k)).trans (rows_apply emb h p t k)) (congrArg W ?_) <;> funext a <;> apply Fin.ext
    · match a with
      | ⟨0, _⟩ => rfl
      | ⟨1, _⟩ => rfl
      | ⟨2, _⟩ => exact hk
    · match a with
      | ⟨0, _⟩ => exact hk
      | ⟨1, _⟩ => rfl
  · refine (broadcastInDim_apply _ _ _ _ (ix3 0 0 c) fun a => by match a with | ⟨0, _⟩ => rfl | ⟨1, _⟩ => rfl | ⟨2, _⟩ => rfl).trans ?_
    exact broadcastInDim_apply _ _ _ _ (ix1 c) fun a => by match a with | ⟨0, _⟩ => rfl
  · exact Ideal.ofBits_zero_f32

/-- The logits at a position. -/
def lg (h : ∀ i, (s i : BitVec 32).toNat < 100000) (p : Fin 1024) (t : Fin 50) (v : Fin 1000) : EReal :=
  ∑ c : Fin 128, unit (fun k => emb (ix2 ⟨_, h (ix2 p t)⟩ k)) (fun k => W (ix2 k c)) (b (ix1 c)) * Wo (ix2 c v) + bo (ix1 v)

theorem lgt_apply (h : ∀ i, (s i : BitVec 32).toNat < 100000) (p : Fin 1024) (t : Fin 50) (v : Fin 1000) :
    lgt s emb W b Wo bo (ix3 p t v) = lg emb W b Wo bo h p t v := by
  unfold lgt lg
  refine congrArg₂ (· + ·) ?_ ?_
  · simp only [Host.dotGeneral]
    refine (Ideal.dotGeneral_apply _ _ _ _ _ _).trans ?_
    refine (Equiv.sum_comp (contrEquiv1 dot_S1024x50x128_S128x1000_S1024x50x1000_2_0_01_1_n_n 128 rfl rfl).symm _).symm.trans
      (Finset.sum_congr rfl fun k _ => ?_)
    have hk := contrEquiv1_symm_val dot_S1024x50x128_S128x1000_S1024x50x1000_2_0_01_1_n_n 128 rfl rfl k
    refine congrArg₂ (· * ·) ((congrArg (layer s emb W b) (?_ : _ = ix3 p t k)).trans (layer_apply emb W b h p t k)) (congrArg Wo ?_) <;> funext a <;> apply Fin.ext
    · match a with
      | ⟨0, _⟩ => rfl
      | ⟨1, _⟩ => rfl
      | ⟨2, _⟩ => exact hk
    · match a with
      | ⟨0, _⟩ => exact hk
      | ⟨1, _⟩ => rfl
  · refine (broadcastInDim_apply _ _ _ _ (ix3 0 0 v) fun a => by match a with | ⟨0, _⟩ => rfl | ⟨1, _⟩ => rfl | ⟨2, _⟩ => rfl).trans ?_
    exact broadcastInDim_apply _ _ _ _ (ix1 v) fun a => by match a with | ⟨0, _⟩ => rfl

end Ref

end Cert.Proof.Val

end
-- ==== Proof.RefSoft.lean ====
/-
  The reference's softmax over the classes, element by element.
-/
module

public import proofs.«01_k».proof.Proof.Ref

@[expose] public section

noncomputable section

namespace Cert.Proof.Val

open Cert.ReferenceIdeal Cert.ReferenceIdeal.Facts Cert.ReferenceIdeal.Facts₀
open Idealize.ShloMosaic Idealize.ShloMosaic.ValueIdx Idealize.ShloMosaic.TcCoe
open scoped BigOperators

namespace Ref

theorem reds : S1024x50x1000.Reduces [2] S1024x50 := by decide

theorem lift_eq (p : Fin 1024) (t : Fin 50) (u : Fin 1000) : reds.lift (ix2 p t) u = (ix3 p t u : S1024x50x1000.Idx) := by
  funext a; apply Fin.ext; match a with | ⟨0, _⟩ => rfl | ⟨1, _⟩ => rfl | ⟨2, _⟩ => rfl

theorem spread (Y : FVec Ideal S1024x50 .f32) (p : Fin 1024) (t : Fin 50) (u : Fin 1000) :
    broadcastInDim S1024x50x1000 ![0, 1, 2] bcast_S1024x50x1_S1024x50x1000_0_1_2
      (broadcastInDim S1024x50x1 ![0, 1] bcast_S1024x50_S1024x50x1_0_1 Y) (ix3 p t u) = Y (ix2 p t) := by
  refine (broadcastInDim_apply _ _ _ _ (ix3 p t 0) fun a => by match a with | ⟨0, _⟩ => rfl | ⟨1, _⟩ => rfl | ⟨2, _⟩ => rfl).trans ?_
  exact broadcastInDim_apply _ _ _ _ (ix2 p t) fun a => by match a with | ⟨0, _⟩ => rfl | ⟨1, _⟩ => rfl

theorem max_apply (L : FVec Ideal S1024x50x1000 .f32) (p : Fin 1024) (t : Fin 50) :
    Host.reduce FloatOps.maximumf L (constant S_ .f32 0xFF800000#32) reducesTo_S1024x50x1000_S1024x50_d2 h_S_ (ix2 p t) = top (fun u => L (ix3 p t u)) := by
  rw [hostReduce_maximumf_eq_multiReduction (φ := .f32) (axes := [2]) L 0xFF800000#32 reducesTo_S1024x50x1000_S1024x50_d2 h_S_ reds (.inl rfl) rfl]
  refine (Ideal.multiReduction_maximumf_single L _ _ _ _ _).trans ?_
  exact congrArg (fun f => Finset.fold max _ f _) (funext fun u => congrArg L (lift_eq p t u))

theorem sum_apply (E : FVec Ideal S1024x50x1000 .f32) (p : Fin 1024) (t : Fin 50) :
    Host.reduceAdd E (constant S_ .f32 0x00000000#32) reducesTo_S1024x50x1000_S1024x50_d2 h_S_ (ix2 p t) = ∑ u, E (ix3 p t u) := by
  rw [hostReduceAdd_apply, Ideal.hostReduceAdd_single _ reds, constant_apply, Ideal.ofBits_zero_f32, zero_add]
  exact Finset.sum_congr rfl fun u _ => congrArg E (lift_eq p t u)

theorem max_top (x : Fin 1000 → EReal) : max (Ideal.ofBits .f32 0xFF800000#32) (top x) = top x :=
  max_eq_right (show _ ≤ top _ from (Finset.le_fold_max _).2 (Or.inl le_rfl))

theorem exp_sub_apply (L M : FVec Ideal S1024x50x1000 .f32) (j : S1024x50x1000.Idx) : Host.exp (subf L M) j = Ideal.exp (L j - M j) := rfl

theorem floor_apply (Y : FVec Ideal S1024x50 .f32) (j : S1024x50.Idx) :
    maximumf (broadcastInDim S1024x50 ![] bcast_S_S1024x50 (constant S_ .f32 0xFF800000#32)) Y j = max (Ideal.ofBits .f32 0xFF800000#32) (Y j) := rfl

theorem exps_apply (L : FVec Ideal S1024x50x1000 .f32) (p : Fin 1024) (t : Fin 50) (u : Fin 1000) :
    exps L (ix3 p t u) = ex (fun u => L (ix3 p t u)) u := by
  unfold exps ex
  rw [exp_sub_apply, spread, floor_apply, max_apply, max_top]

theorem soft_apply (L : FVec Ideal S1024x50x1000 .f32) (p : Fin 1024) (t : Fin 50) (v : Fin 1000) :
    soft L (ix3 p t v) = prob (fun u => L (ix3 p t u)) v := by
  unfold soft
  refine congrArg₂ Ideal.div (exps_apply L p t v) ((spread _ p t v).trans ?_)
  exact (sum_apply _ p t).trans (Finset.sum_congr rfl fun u _ => exps_apply L p t u)

end Ref

end Cert.Proof.Val

end
-- ==== Proof.Result.lean ====
/-
  The kernel's result over the extended reals is the reference's softmax of the reference's logits.
-/
module

public import proofs.«01_k».proof.Proof.Finite
public import proofs.«01_k».proof.Proof.RefSoft
public import proofs.«01_k».proof.Proof.Final
public import Idealize.ShloMosaic.Lib.KernelVsHost

@[expose] public section

noncomputable section

namespace Cert.Proof.Val

open Cert.KernelIdeal Cert.KernelIdeal.Gen Cert.Proof.Sc
open Idealize.ShloMosaic hiding ix1 ix2 ix3 eq_ix1 eq_ix2 eq_ix3
open Idealize.ShloMosaic.ValueIdx Idealize.ShloMosaic.TcCoe
open scoped BigOperators

variable (m : (ℓ : Loc nD τ sig) → Buf (Elt Ideal) ℓ) (d : Dev nD)

abbrev aS : IVec S1024x50 32 := m (lc d main_arg1)
abbrev aE : FVec Ideal S100000x64 .f32 := m (lc d main_arg2)
abbrev aW : FVec Ideal S64x128 .f32 := m (lc d main_arg5)
abbrev aB : FVec Ideal S128 .f32 := m (lc d main_arg6)
abbrev aO : FVec Ideal S128x1000 .f32 := m (lc d main_arg7)
abbrev aP : FVec Ideal S1000 .f32 := m (lc d main_arg8)

theorem embT_apply (k : Fin 64) (r : Fin 100000) : embT m d (ix2 k r) = aE m d (ix2 r k) :=
  transpose_apply _ _ _ _ (ix2 r k) fun a => by match a with | ⟨0, _⟩ => rfl | ⟨1, _⟩ => rfl

theorem woT_apply (v : Fin 1000) (c : Fin 128) : woT m d (ix2 v c) = aO m d (ix2 c v) :=
  transpose_apply _ _ _ _ (ix2 c v) fun a => by match a with | ⟨0, _⟩ => rfl | ⟨1, _⟩ => rfl

theorem b2r_apply (c : Fin 128) : b2r m d (ix2 0 c) = aB m d (ix1 c) :=
  (shapeCast_addUnit_apply _ _ _ _).trans (congrArg (aB m d) (funext fun a => by match a with | ⟨0, _⟩ => rfl))

theorem bor_apply (v : Fin 1000) : bor m d (ix2 v 0) = aP m d (ix1 v) :=
  shapeCast_apply _ _ _ (ix1 v) (by
    rw [Shape.rowMajor_val_one, Shape.rowMajor_val_two]
    show v.val = v.val * 1 + 0
    omega)

/-- Entry `1024 * t + p` of the index list is the index at position `t` of sequence `p`. -/
theorem idxs_apply (p : Fin 1024) (t : Fin 50) (x : S52096.Idx) (hx : (x 0).val = 1024 * t.val + p.val) : idxs m d x = aS m d (ix2 p t) := by
  have lt : 1024 * t.val + p.val < 51200 := by omega
  refine (pad_apply_of_inside _ _ _ _ _ _ _ x (ix1 ⟨1024 * t.val + p.val, lt⟩) fun a => ?_).trans ?_
  · match a with
    | ⟨0, _⟩ => exact hx.trans (by simp)
  refine (shapeCast_apply _ _ _ (ix2 t p) ?_).trans ?_
  · rw [Shape.rowMajor_val_one, Shape.rowMajor_val_two]
    show t.val * 1024 + p.val = 1024 * t.val + p.val
    omega
  · exact transpose_apply _ _ _ _ (ix2 p t) fun a => by match a with | ⟨0, _⟩ => rfl | ⟨1, _⟩ => rfl

/-- A table that the first call may leave holds the rectified layer of each embedding. -/
theorem table_apply {X : S100000x128.Idx → Elt Ideal .f32} (h : tabOK m d X) (r : Fin 100000) (c : Fin 128) :
    X (ix2 r c) = unit (fun k => aE m d (ix2 r k)) (fun k => aW m d (ix2 k c)) (aB m d (ix1 c)) := by
  obtain ⟨t, B, j, h0, h1, hB, e⟩ := h (ix2 r c)
  rw [e, show j = ix2 (j 0) (j 1) from eq_ix2 j]
  refine (pay1_apply B (w2 m d) (b2r m d) (j 0) (j 1)).trans ?_
  have hc : (j 1 : Fin 128) = c := Fin.ext h1.symm
  rw [hc, b2r_apply]
  refine congrArg (fun f => unit f _ _) (funext fun k => ?_)
  exact (hB (ix2 k (j 0)) (ix2 k r) rfl h0).trans (embT_apply m d k r)

theorem res_eq (hR : InRange m) (hI : ∀ i, (aS m d i : BitVec 32).toNat < 100000)
    (hE : ∀ i, IsReal (aE m d i)) (hW : ∀ i, IsReal (aW m d i)) (hB : ∀ i, IsReal (aB m d i)) (hO : ∀ i, IsReal (aO m d i)) (hP : ∀ i, IsReal (aP m d i))
    {r : S1024x50x1000.Idx → Elt Ideal .f32} (h : resOK m hR d r) :
    r = Ref.soft (Ref.lgt (aS m d) (aE m d) (aW m d) (aB m d) (aO m d) (aP m d)) := by
  obtain ⟨f, hf, rfl⟩ := h
  funext i
  have key : ∀ (p : Fin 1024) (t : Fin 50) (v : Fin 1000), res m d f (ix3 p t v)
      = Ref.soft (Ref.lgt (aS m d) (aE m d) (aW m d) (aB m d) (aO m d) (aP m d)) (ix3 p t v) := by
    intro p t v
    have hu : ∀ c : Fin 128, IsReal (unit (fun k => aE m d (ix2 ⟨_, hI (ix2 p t)⟩ k)) (fun k => aW m d (ix2 k c)) (aB m d (ix1 c))) :=
      fun c => isReal_unit (fun k => hE _) (fun k => hW _) (hB _)
    have hlr : ∀ v, IsReal (Ref.lg (aE m d) (aW m d) (aB m d) (aO m d) (aP m d) hI p t v) :=
      fun v => (IsReal.sum fun c => (hu c).mul (hO _)).add (hP _)
    have row : ∀ c : Fin 128, rowsOf t f (ix2 p c) = unit (fun k => aE m d (ix2 ⟨_, hI (ix2 p t)⟩ k)) (fun k => aW m d (ix2 k c)) (aB m d (ix1 c)) := by
      intro c
      have lt : 1024 * t.val + p.val < 51200 := by omega
      have e0 : rowsOf t f (ix2 p c) = f (ix2 ⟨1024 * t.val + p.val, lt⟩ c) :=
        congrArg f (funext fun a => by match a with | ⟨0, _⟩ => rfl | ⟨1, _⟩ => rfl)
      obtain ⟨X, hX, e⟩ := hf (ix2 ⟨1024 * t.val + p.val, lt⟩ c)
      rw [e0, e]
      refine (congrArg X (?_ : _ = ix2 ⟨_, hI (ix2 p t)⟩ c)).trans (table_apply m d hX _ c)
      funext a; apply Fin.ext
      match a with
      | ⟨0, _⟩ =>
        have q : (idxs m d (ixI ⟨1024 * t.val + p.val, Nat.lt_of_lt_of_le lt (by decide)⟩) : BitVec 32) = aS m d (ix2 p t) := idxs_apply m d p t _ rfl
        show (idxs m d (ixI ⟨1024 * t.val + p.val, Nat.lt_of_lt_of_le lt (by decide)⟩) : BitVec 32).toNat = (aS m d (ix2 p t)).toNat
        rw [q]
      | ⟨1, _⟩ => rfl
    have hl : logits (woT m d) (rowsOf t f) (bor m d) p = Ref.lg (aE m d) (aW m d) (aB m d) (aO m d) (aP m d) hI p t := by
      funext u
      unfold logits Ref.lg
      refine congrArg₂ (· + ·) (Finset.sum_congr rfl fun c _ => ?_) (bor_apply m d u)
      rw [woT_apply, row, mul_comm]
    rw [Ref.soft_apply]
    have e1 : res m d f (ix3 p t v) = k2_pay2 (woT m d) (rowsOf t f) (bor m d) (ix3 0 v p) := by
      refine (transpose_apply _ _ _ _ (ix3 t v p) fun a => by match a with | ⟨0, _⟩ => rfl | ⟨1, _⟩ => rfl | ⟨2, _⟩ => rfl).trans ?_
      exact congrArg (k2_pay2 (woT m d) (rowsOf t f) (bor m d)) (funext fun a => by match a with | ⟨0, _⟩ => rfl | ⟨1, _⟩ => rfl | ⟨2, _⟩ => rfl)
    rw [e1, pay2_apply, hl, mul_recip hlr]
    exact congrArg (fun x => prob x v) (funext fun u => (Ref.lgt_apply _ _ _ _ _ hI p t u).symm)
  exact (congrArg (res m d f) (eq_ix3 i)).trans ((key (i 0) (i 1) (i 2)).trans (congrArg _ (eq_ix3 i)).symm)

end Cert.Proof.Val

end
-- ==== Proof.Algebra.lean ====
/-
  The kernel and the reference compute the same function over the extended reals, for indices that name rows and finite floats.
-/
module

public import proofs.«01_k».proof.Proof.Frames
public import proofs.«01_k».proof.Proof.Pre
public import proofs.«01_k».proof.Proof.Result

@[expose] public section

noncomputable section

namespace Cert.Proof

open Idealize.ShloMosaic Idealize.SL.Sem

theorem frame_ideal_finite : Cert.quiescent_KernelIdeal_pre_rows_in_range_finite := fun m ρ hpre =>
  (θ_run Cert.KernelIdeal.defs _ _).mono (fun _ h => ⟨fun c => (h.1 c).1, h.2⟩)
    (Sc.run_main (F := Ideal) m ρ (Sc.inRange m fun d i => (Val.reals (hpre d)).idx i))

theorem frame_reference_finite : Cert.quiescent_ReferenceIdeal_pre_rows_in_range_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebra : Cert.algebraic_KernelIdeal_ReferenceIdeal_pre_rows_in_range_finite := by
  intro m g m' g' hpre hagree
  have hr := fun d => Val.reals (hpre d)
  have ok : Sc.InRange m := Sc.inRange m fun d i => (hr d).idx i
  refine ⟨fun c => Val.Ref.soft (Val.Ref.lgt (Val.aS m c) (Val.aE m c) (Val.aW m c) (Val.aB m c) (Val.aO m c) (Val.aP m c)), ?_, ?_⟩
  · refine (θ_run Cert.KernelIdeal.defs _ _).mono (fun r h c => ⟨?_, (h.1 c).1⟩) (Sc.run_main (F := Ideal) m g ok)
    exact Val.res_eq m c ok (hr c).idx (hr c).emb (hr c).w (hr c).b (hr c).wo (hr c).bo (h.1 c).2
  · refine (θ_run Cert.ReferenceIdeal.defs _ _).mono (fun r h c => ⟨(h c).1.trans ((Val.Ref.res_eq m' c).trans ?_), (h c).2⟩)
      (Cert.ReferenceIdeal.Value.run (F := Ideal) m' g')
    obtain ⟨-, h1, h2, -, -, h5, h6, h7, h8⟩ := hagree c
    rw [h1, h2, h5, h6, h7, h8]

end Cert.Proof

end
-- ==== Proof.lean ====
/-
  The proof of the certificate's claim, from its parts: the frames (Proof/Frames.lean), and the equation of the kernel and the reference
  over the extended reals (Proof/Algebra.lean).
-/
module

public import proofs.«01_k».proof.Defs
public import proofs.«01_k».proof.Proof.Frames
public import proofs.«01_k».proof.Proof.Algebra
public import proofs.«01_k».proof.Proof.Gen.Pre_rows_in_range_finite
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.ReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_rows_in_range.Gen.facts,
    Cert.Pre_rows_in_range_finite.Gen.facts, frame_kernel, frame_ideal, frame_ideal_finite, frame_reference, frame_reference_finite,
    trivial, algebra⟩

end Cert.Proof

end
